-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_0) = v0 c
          ∧ r.2.mem ((c.tc : Thread Cert.ReferenceIdeal.nD Cert.ReferenceIdeal.τ).loc Cert.ReferenceIdeal.main_v5_1) = v1 c
          ∧ r.2.mem ((c.tc : Thread Cert.ReferenceIdeal.nD Cert.ReferenceIdeal.τ).loc Cert.ReferenceIdeal.main_v5_2) = v2 c
          ∧ r.2.mem ((c.tc : Thread Cert.ReferenceIdeal.nD Cert.ReferenceIdeal.τ).loc Cert.ReferenceIdeal.main_v5_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S3x640x5120 : Shape := ⟨3, ![3, 640, 5120]⟩
abbrev S5120 : Shape := ⟨1, ![5120]⟩
abbrev S3x640 : Shape := ⟨2, ![3, 640]⟩
abbrev S16 : Shape := ⟨1, ![16]⟩
abbrev S_ : Shape := ⟨0, ![]⟩

class Facts : Prop where
  bcast_S_S3x640x5120 : S_.BroadcastsInDim S3x640x5120 (![] : Fin 0 → Fin S3x640x5120.rank)
  bcast_S_S5120 : S_.BroadcastsInDim S5120 (![] : Fin 0 → Fin S5120.rank)
  bcast_S_S3x640 : S_.BroadcastsInDim S3x640 (![] : Fin 0 → Fin S3x640.rank)
  bcast_S_S16 : S_.BroadcastsInDim S16 (![] : Fin 0 → Fin S16.rank)

variable [Facts]

def fn {F : FTy → Type} [FloatOps F] (main_arg0 : FVec F S3x640x5120 .bf16) (main_arg1 : FVec F S3x640x5120 .bf16) (main_arg2 : FVec F S5120 .f32) (main_arg3 : FVec F S3x640 .f32) (main_arg4 : FVec F S16 .f32) : IVec S3x640x5120 1 × IVec S3x640x5120 1 × IVec S5120 1 × IVec S3x640 1 × IVec S16 1 :=
  let main_v0 : FVec F S3x640x5120 .bf16 := Host.absf main_arg0
  let main_cst : FVec F S_ .bf16 := constant S_ .bf16 0x7F80#16
  let main_v1 : FVec F S3x640x5120 .bf16 := broadcastInDim S3x640x5120 ![] bcast_S_S3x640x5120 main_cst
  let main_v2 : IVec S3x640x5120 1 := cmpf .olt main_v0 main_v1
  let main_v3 : FVec F S3x640x5120 .bf16 := Host.absf main_arg1
  let main_cst_0 : FVec F S_ .bf16 := constant S_ .bf16 0x7F80#16
  let main_v4 : FVec F S3x640x5120 .bf16 := broadcastInDim S3x640x5120 ![] bcast_S_S3x640x5120 main_cst_0
  let main_v5 : IVec S3x640x5120 1 := cmpf .olt main_v3 main_v4
  let main_v6 : FVec F S5120 .f32 := Host.absf main_arg2
  let main_cst_1 : FVec F S_ .f32 := constant S_ .f32 0x7F800000#32
  let main_v7 : FVec F S5120 .f32 := broadcastInDim S5120 ![] bcast_S_S5120 main_cst_1
  let main_v8 : IVec S5120 1 := cmpf .olt main_v6 main_v7
  let main_v9 : FVec F S3x640 .f32 := Host.absf main_arg3
  let main_cst_2 : FVec F S_ .f32 := constant S_ .f32 0x7F800000#32
  let main_v10 : FVec F S3x640 .f32 := broadcastInDim S3x640 ![] bcast_S_S3x640 main_cst_2
  let main_v11 : IVec S3x640 1 := cmpf .olt main_v9 main_v10
  let main_v12 : FVec F S16 .f32 := Host.absf main_arg4
  let main_cst_3 : FVec F S_ .f32 := constant S_ .f32 0x7F7FFFFF#32
  let main_v13 : FVec F S16 .f32 := broadcastInDim S16 ![] bcast_S_S16 main_cst_3
  let main_v14 : IVec S16 1 := cmpf .ole main_v12 main_v13
  (main_v2, main_v5, main_v8, main_v11, main_v14)
-- ==== Kernel.lean ====
abbrev S3x640x5120 : Shape := ⟨3, ![3, 640, 5120]⟩
abbrev S5120 : Shape := ⟨1, ![5120]⟩
abbrev S3x640 : Shape := ⟨2, ![3, 640]⟩
abbrev S16 : Shape := ⟨1, ![16]⟩
abbrev S1920x5120 : Shape := ⟨2, ![1920, 5120]⟩
abbrev S1x5120 : Shape := ⟨2, ![1, 5120]⟩
abbrev S1x16 : Shape := ⟨2, ![1, 16]⟩
abbrev S1x1 : Shape := ⟨2, ![1, 1]⟩
abbrev S32x5120 : Shape := ⟨2, ![32, 5120]⟩
abbrev S1920x128 : Shape := ⟨2, ![1920, 128]⟩
abbrev S8x5120 : Shape := ⟨2, ![8, 5120]⟩
abbrev S2x60 : Shape := ⟨2, ![2, 60]⟩
abbrev S_ : Shape := ⟨0, ![]⟩
abbrev S6 : Shape := ⟨1, ![6]⟩
abbrev S1 : Shape := ⟨1, ![1]⟩
abbrev S1x255 : Shape := ⟨2, ![1, 255]⟩
abbrev S1x128 : Shape := ⟨2, ![1, 128]⟩
abbrev S128x128 : Shape := ⟨2, ![128, 128]⟩
abbrev S32x128 : Shape := ⟨2, ![32, 128]⟩
abbrev S8x128 : Shape := ⟨2, ![8, 128]⟩
abbrev S32 : Shape := ⟨1, ![32]⟩
abbrev S32x1 : Shape := ⟨2, ![32, 1]⟩
abbrev S128 : Shape := ⟨1, ![128]⟩

abbrev nBuf : Space → Nat
  | .hbm => 13
  | .vmem => 14
  | .smem => 0
  | _ => 0

abbrev bufTy : (tb : Table) → Fin (tcTables nBuf tb) → BufTy
  | .hbm, ⟨0, _⟩ => ⟨S3x640x5120, .bf16⟩
  | .hbm, ⟨1, _⟩ => ⟨S3x640x5120, .bf16⟩
  | .hbm, ⟨2, _⟩ => ⟨S5120, .f32⟩
  | .hbm, ⟨3, _⟩ => ⟨S3x640, .f32⟩
  | .hbm, ⟨4, _⟩ => ⟨S16, .f32⟩
  | .hbm, ⟨5, _⟩ => ⟨S1920x5120, .bf16⟩
  | .hbm, ⟨6, _⟩ => ⟨S1920x5120, .bf16⟩
  | .hbm, ⟨7, _⟩ => ⟨S1x5120, .f32⟩
  | .hbm, ⟨8, _⟩ => ⟨S1x16, .f32⟩
  | .hbm, ⟨9, _⟩ => ⟨S1x5120, .f32⟩
  | .hbm, ⟨10, _⟩ => ⟨S1920x5120, .fp8e5m2⟩
  | .hbm, ⟨11, _⟩ => ⟨S1x1, .f32⟩
  | .hbm, ⟨12, _⟩ => ⟨S1x1, .f32⟩
  | .local _ .vmem, ⟨0, _⟩ => ⟨S1920x5120, .bf16⟩
  | .local _ .vmem, ⟨1, _⟩ => ⟨S1920x5120, .bf16⟩
  | .local _ .vmem, ⟨2, _⟩ => ⟨S1920x5120, .fp8e5m2⟩
  | .local _ .vmem, ⟨3, _⟩ => ⟨S32x5120, .f32⟩
  | .local _ .vmem, ⟨4, _⟩ => ⟨S32x5120, .f32⟩
  | .local _ .vmem, ⟨5, _⟩ => ⟨S1920x128, .f32⟩
  | .local _ .vmem, ⟨6, _⟩ => ⟨S1x5120, .f32⟩
  | .local _ .vmem, ⟨7, _⟩ => ⟨S1x5120, .f32⟩
  | .local _ .vmem, ⟨8, _⟩ => ⟨S3x640, .f32⟩
  | .local _ .vmem, ⟨9, _⟩ => ⟨S1x16, .f32⟩
  | .local _ .vmem, ⟨10, _⟩ => ⟨S8x5120, .f32⟩
  | .local _ .vmem, ⟨11, _⟩ => ⟨S1x5120, .f32⟩
  | .local _ .vmem, ⟨12, _⟩ => ⟨S1x1, .f32⟩
  | .local _ .vmem, ⟨13, _⟩ => ⟨S1x1, .f32⟩
  | _, _ => ⟨S3x640x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 127 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | _ => false

abbrev sig : RefSig :=
  ofTc nBuf bufTy 0 127 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩

abbrev nD : Nat := 1
abbrev τ : Topo := Topo.v7x

variable {F : FTy → Type} [FloatOps F]

abbrev grid0 : Pipeline.Grid := .none

@[reducible] def k0_t1_loop : Scf.Loop 32 :=
  let c0_i32_0 : BitVec 32 := 0#32
  let c60_i32 : BitVec 32 := 60#32
  let v6 : BitVec 32 := Scalar.addi c0_i32_0 c60_i32
  let c1_i32_1 : BitVec 32 := 1#32
  ⟨c0_i32_0, v6, c1_i32_1⟩
def k0_mult1 (k0_t1 : Fin k0_t1_loop.trips) : BitVec 32 :=
  let c0_i32_927 : BitVec 32 := 0#32
  let c0_i32_0 : BitVec 32 := 0#32
  let c1_i32_1 : BitVec 32 := 1#32
  let arg26 : BitVec 32 := Scf.iv c0_i32_0 c1_i32_1 k0_t1
  let c1_i32_926 : BitVec 32 := 1#32
  let v2432 : BitVec 32 := Scalar.muli arg26 c1_i32_926
  let v2433 : BitVec 32 := Scalar.addi c0_i32_927 v2432
  let c32_i32 : BitVec 32 := 32#32
  let v2434 : BitVec 32 := Scalar.muli v2433 c32_i32
  v2434
def k0_mult2 (k0_t1 : Fin k0_t1_loop.trips) : BitVec 32 :=
  let c0_i32_927 : BitVec 32 := 0#32
  let c0_i32_0 : BitVec 32 := 0#32
  let c1_i32_1 : BitVec 32 := 1#32
  let arg26 : BitVec 32 := Scf.iv c0_i32_0 c1_i32_1 k0_t1
  let c1_i32_926 : BitVec 32 := 1#32
  let v2432 : BitVec 32 := Scalar.muli arg26 c1_i32_926
  let v2433 : BitVec 32 := Scalar.addi c0_i32_927 v2432
  let c32_i32_928 : BitVec 32 := 32#32
  let v2436 : BitVec 32 := Scalar.muli v2433 c32_i32_928
  v2436
def k0_off1 (k0_t1 : Fin k0_t1_loop.trips) : Fin 2 → Nat :=
  let c0_i32_929 : BitVec 32 := 0#32
  let c0_i32_927 : BitVec 32 := 0#32
  let c0_i32_0 : BitVec 32 := 0#32
  let c1_i32_1 : BitVec 32 := 1#32
  let arg26 : BitVec 32 := Scf.iv c0_i32_0 c1_i32_1 k0_t1
  let c1_i32_926 : BitVec 32 := 1#32
  let v2432 : BitVec 32 := Scalar.muli arg26 c1_i32_926
  let v2433 : BitVec 32 := Scalar.addi c0_i32_927 v2432
  ![0, v2433.toNat]
def k0_off2 (k0_t1 : Fin k0_t1_loop.trips) : Fin 2 → Nat :=
  let c0_i32_927 : BitVec 32 := 0#32
  let c0_i32_0 : BitVec 32 := 0#32
  let c1_i32_1 : BitVec 32 := 1#32
  let arg26 : BitVec 32 := Scf.iv c0_i32_0 c1_i32_1 k0_t1
  let c1_i32_926 : BitVec 32 := 1#32
  let v2432 : BitVec 32 := Scalar.muli arg26 c1_i32_926
  let v2433 : BitVec 32 := Scalar.addi c0_i32_927 v2432
  let c32_i32 : BitVec 32 := 32#32
  let v2434 : BitVec 32 := Scalar.muli v2433 c32_i32
  let v2435 : BitVec 32 := v2434
  let c0_i32_930 : BitVec 32 := 0#32
  ![v2435.toNat, 0]
def k0_off3 (k0_t1 : Fin k0_t1_loop.trips) : Fin 2 → Nat :=
  let c1_i32_932 : BitVec 32 := 1#32
  let c0_i32_927 : BitVec 32 := 0#32
  let c0_i32_0 : BitVec 32 := 0#32
  let c1_i32_1 : BitVec 32 := 1#32
  let arg26 : BitVec 32 := Scf.iv c0_i32_0 c1_i32_1 k0_t1
  let c1_i32_926 : BitVec 32 := 1#32
  let v2432 : BitVec 32 := Scalar.muli arg26 c1_i32_926
  let v2433 : BitVec 32 := Scalar.addi c0_i32_927 v2432
  ![1, v2433.toNat]
def k0_mult3 : BitVec 32 :=
  let c0_i32_69 : BitVec 32 := 0#32
  c0_i32_69
def k0_mult4 : BitVec 32 :=
  let c0_i32_70 : BitVec 32 := 0#32
  c0_i32_70
def k0_mult5 : BitVec 32 :=
  let c0_i32_79 : BitVec 32 := 0#32
  c0_i32_79
@[reducible] def k0_t2_loop : Scf.Loop 32 :=
  let c1_i32_542 : BitVec 32 := 1#32
  let c59_i32 : BitVec 32 := 59#32
  let v1393 : BitVec 32 := Scalar.addi c1_i32_542 c59_i32
  let c1_i32_543 : BitVec 32 := 1#32
  ⟨c1_i32_542, v1393, c1_i32_543⟩
def k0_mult6 (k0_t2 : Fin k0_t2_loop.trips) : BitVec 32 :=
  let c1_i32_542 : BitVec 32 := 1#32
  let c1_i32_543 : BitVec 32 := 1#32
  let arg26 : BitVec 32 := Scf.iv c1_i32_542 c1_i32_543 k0_t2
  let c32_i32 : BitVec 32 := 32#32
  let v2432 : BitVec 32 := Scalar.muli arg26 c32_i32
  v2432
def k0_mult7 (k0_t2 : Fin k0_t2_loop.trips) : BitVec 32 :=
  let c1_i32_542 : BitVec 32 := 1#32
  let c1_i32_543 : BitVec 32 := 1#32
  let arg26 : BitVec 32 := Scf.iv c1_i32_542 c1_i32_543 k0_t2
  let c32_i32_926 : BitVec 32 := 32#32
  let v2434 : BitVec 32 := Scalar.muli arg26 c32_i32_926
  v2434
def k0_off4 (k0_t2 : Fin k0_t2_loop.trips) : Fin 2 → Nat :=
  let c0_i32_927 : BitVec 32 := 0#32
  let c1_i32_542 : BitVec 32 := 1#32
  let c1_i32_543 : BitVec 32 := 1#32
  let arg26 : BitVec 32 := Scf.iv c1_i32_542 c1_i32_543 k0_t2
  ![0, arg26.toNat]
def k0_off5 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32 : BitVec 32 := 32#32
  let v2432 : BitVec 32 := Scalar.muli arg26 c32_i32
  let v2433 : BitVec 32 := v2432
  let c0_i32_928 : BitVec 32 := 0#32
  ![v2433.toNat, 0]
def k0_off6 (k0_t2 : Fin k0_t2_loop.trips) : Fin 2 → Nat :=
  let c1_i32_930 : BitVec 32 := 1#32
  let c1_i32_542 : BitVec 32 := 1#32
  let c1_i32_543 : BitVec 32 := 1#32
  let arg26 : BitVec 32 := Scf.iv c1_i32_542 c1_i32_543 k0_t2
  ![1, arg26.toNat]
def k0_cond1 (k0_t2 : Fin k0_t2_loop.trips) : BitVec 1 :=
  let c1_i32_542 : BitVec 32 := 1#32
  let c1_i32_543 : BitVec 32 := 1#32
  let arg26 : BitVec 32 := Scf.iv c1_i32_542 c1_i32_543 k0_t2
  let c2_i32_933 : BitVec 32 := 2#32
  let v2444 : BitVec 1 := Scalar.cmpi .sge arg26 c2_i32_933
  let v2445 : BitVec 32 := Scalar.extui v2444
  let c0_i32_934 : BitVec 32 := 0#32
  let v2446 : BitVec 1 := Scalar.cmpi .ne v2445 c0_i32_934
  v2446

def k0_mult8 (k0_t2 : Fin k0_t2_loop.trips) : BitVec 32 :=
  let c1_i32_542 : BitVec 32 := 1#32
  let c1_i32_543 : BitVec 32 := 1#32
  let arg26 : BitVec 32 := Scf.iv c1_i32_542 c1_i32_543 k0_t2
  let c2_i32_1781 : BitVec 32 := 2#32
  let v4662 : BitVec 32 := Scalar.subi arg26 c2_i32_1781
  let c32_i32_1782 : BitVec 32 := 32#32
  let v4663 : BitVec 32 := Scalar.muli v4662 c32_i32_1782
  v4663
def k0_off7 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c2_i32_1781 : BitVec 32 := 2#32
  let v4662 : BitVec 32 := Scalar.subi arg26 c2_i32_1781
  let c32_i32_1782 : BitVec 32 := 32#32
  let v4663 : BitVec 32 := Scalar.muli v4662 c32_i32_1782
  let v4664 : BitVec 32 := v4663
  let c0_i32_1783 : BitVec 32 := 0#32
  ![v4664.toNat, 0]
def k0_mult9 (k0_t2 : Fin k0_t2_loop.trips) : BitVec 32 :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  v2447
def k0_mult10 (k0_t2 : Fin k0_t2_loop.trips) : BitVec 32 :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  v2450
def k0_off8 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2452 : Index := Scalar.indexCast v2448
  let c0_938 : Index := 0#32
  ![v2452.toNat, 0]
def k0_off9 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2466 : Index := Scalar.indexCast v2451
  let c0_947 : Index := 0#32
  ![v2466.toNat, 0]
def k0_off10 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2479 : Index := Scalar.indexCast v2448
  let c0_948 : Index := 0#32
  ![v2479.toNat, 0]
def k0_off11 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2520 : Index := Scalar.indexCast v2451
  let c128_968 : Index := 128#32
  ![v2520.toNat, 128]
def k0_off12 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2533 : Index := Scalar.indexCast v2448
  let c128_969 : Index := 128#32
  ![v2533.toNat, 128]
def k0_off13 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2575 : Index := Scalar.indexCast v2451
  let c256_989 : Index := 256#32
  ![v2575.toNat, 256]
def k0_off14 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2588 : Index := Scalar.indexCast v2448
  let c256_990 : Index := 256#32
  ![v2588.toNat, 256]
def k0_off15 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2630 : Index := Scalar.indexCast v2451
  let c384_1010 : Index := 384#32
  ![v2630.toNat, 384]
def k0_off16 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2643 : Index := Scalar.indexCast v2448
  let c384_1011 : Index := 384#32
  ![v2643.toNat, 384]
def k0_off17 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2685 : Index := Scalar.indexCast v2451
  let c512_1031 : Index := 512#32
  ![v2685.toNat, 512]
def k0_off18 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2698 : Index := Scalar.indexCast v2448
  let c512_1032 : Index := 512#32
  ![v2698.toNat, 512]
def k0_off19 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2740 : Index := Scalar.indexCast v2451
  let c640_1052 : Index := 640#32
  ![v2740.toNat, 640]
def k0_off20 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2753 : Index := Scalar.indexCast v2448
  let c640_1053 : Index := 640#32
  ![v2753.toNat, 640]
def k0_off21 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2795 : Index := Scalar.indexCast v2451
  let c768_1073 : Index := 768#32
  ![v2795.toNat, 768]
def k0_off22 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2808 : Index := Scalar.indexCast v2448
  let c768_1074 : Index := 768#32
  ![v2808.toNat, 768]
def k0_off23 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2850 : Index := Scalar.indexCast v2451
  let c896_1094 : Index := 896#32
  ![v2850.toNat, 896]
def k0_off24 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2863 : Index := Scalar.indexCast v2448
  let c896_1095 : Index := 896#32
  ![v2863.toNat, 896]
def k0_off25 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2905 : Index := Scalar.indexCast v2451
  let c1024_1115 : Index := 1024#32
  ![v2905.toNat, 1024]
def k0_off26 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2918 : Index := Scalar.indexCast v2448
  let c1024_1116 : Index := 1024#32
  ![v2918.toNat, 1024]
def k0_off27 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v2960 : Index := Scalar.indexCast v2451
  let c1152_1136 : Index := 1152#32
  ![v2960.toNat, 1152]
def k0_off28 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v2973 : Index := Scalar.indexCast v2448
  let c1152_1137 : Index := 1152#32
  ![v2973.toNat, 1152]
def k0_off29 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3015 : Index := Scalar.indexCast v2451
  let c1280_1157 : Index := 1280#32
  ![v3015.toNat, 1280]
def k0_off30 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3028 : Index := Scalar.indexCast v2448
  let c1280_1158 : Index := 1280#32
  ![v3028.toNat, 1280]
def k0_off31 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3070 : Index := Scalar.indexCast v2451
  let c1408_1178 : Index := 1408#32
  ![v3070.toNat, 1408]
def k0_off32 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3083 : Index := Scalar.indexCast v2448
  let c1408_1179 : Index := 1408#32
  ![v3083.toNat, 1408]
def k0_off33 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3125 : Index := Scalar.indexCast v2451
  let c1536_1199 : Index := 1536#32
  ![v3125.toNat, 1536]
def k0_off34 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3138 : Index := Scalar.indexCast v2448
  let c1536_1200 : Index := 1536#32
  ![v3138.toNat, 1536]
def k0_off35 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3180 : Index := Scalar.indexCast v2451
  let c1664_1220 : Index := 1664#32
  ![v3180.toNat, 1664]
def k0_off36 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3193 : Index := Scalar.indexCast v2448
  let c1664_1221 : Index := 1664#32
  ![v3193.toNat, 1664]
def k0_off37 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3235 : Index := Scalar.indexCast v2451
  let c1792_1241 : Index := 1792#32
  ![v3235.toNat, 1792]
def k0_off38 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3248 : Index := Scalar.indexCast v2448
  let c1792_1242 : Index := 1792#32
  ![v3248.toNat, 1792]
def k0_off39 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3290 : Index := Scalar.indexCast v2451
  let c1920_1262 : Index := 1920#32
  ![v3290.toNat, 1920]
def k0_off40 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3303 : Index := Scalar.indexCast v2448
  let c1920_1263 : Index := 1920#32
  ![v3303.toNat, 1920]
def k0_off41 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3345 : Index := Scalar.indexCast v2451
  let c2048_1283 : Index := 2048#32
  ![v3345.toNat, 2048]
def k0_off42 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3358 : Index := Scalar.indexCast v2448
  let c2048_1284 : Index := 2048#32
  ![v3358.toNat, 2048]
def k0_off43 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3400 : Index := Scalar.indexCast v2451
  let c2176_1304 : Index := 2176#32
  ![v3400.toNat, 2176]
def k0_off44 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3413 : Index := Scalar.indexCast v2448
  let c2176_1305 : Index := 2176#32
  ![v3413.toNat, 2176]
def k0_off45 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3455 : Index := Scalar.indexCast v2451
  let c2304_1325 : Index := 2304#32
  ![v3455.toNat, 2304]
def k0_off46 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3468 : Index := Scalar.indexCast v2448
  let c2304_1326 : Index := 2304#32
  ![v3468.toNat, 2304]
def k0_off47 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3510 : Index := Scalar.indexCast v2451
  let c2432_1346 : Index := 2432#32
  ![v3510.toNat, 2432]
def k0_off48 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3523 : Index := Scalar.indexCast v2448
  let c2432_1347 : Index := 2432#32
  ![v3523.toNat, 2432]
def k0_off49 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3565 : Index := Scalar.indexCast v2451
  let c2560_1367 : Index := 2560#32
  ![v3565.toNat, 2560]
def k0_off50 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3578 : Index := Scalar.indexCast v2448
  let c2560_1368 : Index := 2560#32
  ![v3578.toNat, 2560]
def k0_off51 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3620 : Index := Scalar.indexCast v2451
  let c2688_1388 : Index := 2688#32
  ![v3620.toNat, 2688]
def k0_off52 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3633 : Index := Scalar.indexCast v2448
  let c2688_1389 : Index := 2688#32
  ![v3633.toNat, 2688]
def k0_off53 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3675 : Index := Scalar.indexCast v2451
  let c2816_1409 : Index := 2816#32
  ![v3675.toNat, 2816]
def k0_off54 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3688 : Index := Scalar.indexCast v2448
  let c2816_1410 : Index := 2816#32
  ![v3688.toNat, 2816]
def k0_off55 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3730 : Index := Scalar.indexCast v2451
  let c2944_1430 : Index := 2944#32
  ![v3730.toNat, 2944]
def k0_off56 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3743 : Index := Scalar.indexCast v2448
  let c2944_1431 : Index := 2944#32
  ![v3743.toNat, 2944]
def k0_off57 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3785 : Index := Scalar.indexCast v2451
  let c3072_1451 : Index := 3072#32
  ![v3785.toNat, 3072]
def k0_off58 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3798 : Index := Scalar.indexCast v2448
  let c3072_1452 : Index := 3072#32
  ![v3798.toNat, 3072]
def k0_off59 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3840 : Index := Scalar.indexCast v2451
  let c3200_1472 : Index := 3200#32
  ![v3840.toNat, 3200]
def k0_off60 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3853 : Index := Scalar.indexCast v2448
  let c3200_1473 : Index := 3200#32
  ![v3853.toNat, 3200]
def k0_off61 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3895 : Index := Scalar.indexCast v2451
  let c3328_1493 : Index := 3328#32
  ![v3895.toNat, 3328]
def k0_off62 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3908 : Index := Scalar.indexCast v2448
  let c3328_1494 : Index := 3328#32
  ![v3908.toNat, 3328]
def k0_off63 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v3950 : Index := Scalar.indexCast v2451
  let c3456_1514 : Index := 3456#32
  ![v3950.toNat, 3456]
def k0_off64 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v3963 : Index := Scalar.indexCast v2448
  let c3456_1515 : Index := 3456#32
  ![v3963.toNat, 3456]
def k0_off65 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4005 : Index := Scalar.indexCast v2451
  let c3584_1535 : Index := 3584#32
  ![v4005.toNat, 3584]
def k0_off66 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4018 : Index := Scalar.indexCast v2448
  let c3584_1536 : Index := 3584#32
  ![v4018.toNat, 3584]
def k0_off67 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4060 : Index := Scalar.indexCast v2451
  let c3712_1556 : Index := 3712#32
  ![v4060.toNat, 3712]
def k0_off68 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4073 : Index := Scalar.indexCast v2448
  let c3712_1557 : Index := 3712#32
  ![v4073.toNat, 3712]
def k0_off69 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4115 : Index := Scalar.indexCast v2451
  let c3840_1577 : Index := 3840#32
  ![v4115.toNat, 3840]
def k0_off70 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4128 : Index := Scalar.indexCast v2448
  let c3840_1578 : Index := 3840#32
  ![v4128.toNat, 3840]
def k0_off71 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4170 : Index := Scalar.indexCast v2451
  let c3968_1598 : Index := 3968#32
  ![v4170.toNat, 3968]
def k0_off72 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4183 : Index := Scalar.indexCast v2448
  let c3968_1599 : Index := 3968#32
  ![v4183.toNat, 3968]
def k0_off73 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4225 : Index := Scalar.indexCast v2451
  let c4096_1619 : Index := 4096#32
  ![v4225.toNat, 4096]
def k0_off74 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4238 : Index := Scalar.indexCast v2448
  let c4096_1620 : Index := 4096#32
  ![v4238.toNat, 4096]
def k0_off75 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4280 : Index := Scalar.indexCast v2451
  let c4224_1640 : Index := 4224#32
  ![v4280.toNat, 4224]
def k0_off76 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4293 : Index := Scalar.indexCast v2448
  let c4224_1641 : Index := 4224#32
  ![v4293.toNat, 4224]
def k0_off77 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4335 : Index := Scalar.indexCast v2451
  let c4352_1661 : Index := 4352#32
  ![v4335.toNat, 4352]
def k0_off78 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4348 : Index := Scalar.indexCast v2448
  let c4352_1662 : Index := 4352#32
  ![v4348.toNat, 4352]
def k0_off79 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4390 : Index := Scalar.indexCast v2451
  let c4480_1682 : Index := 4480#32
  ![v4390.toNat, 4480]
def k0_off80 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4403 : Index := Scalar.indexCast v2448
  let c4480_1683 : Index := 4480#32
  ![v4403.toNat, 4480]
def k0_off81 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4445 : Index := Scalar.indexCast v2451
  let c4608_1703 : Index := 4608#32
  ![v4445.toNat, 4608]
def k0_off82 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4458 : Index := Scalar.indexCast v2448
  let c4608_1704 : Index := 4608#32
  ![v4458.toNat, 4608]
def k0_off83 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4500 : Index := Scalar.indexCast v2451
  let c4736_1724 : Index := 4736#32
  ![v4500.toNat, 4736]
def k0_off84 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4513 : Index := Scalar.indexCast v2448
  let c4736_1725 : Index := 4736#32
  ![v4513.toNat, 4736]
def k0_off85 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4555 : Index := Scalar.indexCast v2451
  let c4864_1745 : Index := 4864#32
  ![v4555.toNat, 4864]
def k0_off86 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4568 : Index := Scalar.indexCast v2448
  let c4864_1746 : Index := 4864#32
  ![v4568.toNat, 4864]
def k0_off87 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c1_i32_936 : BitVec 32 := 1#32
  let v2449 : BitVec 32 := Scalar.subi arg26 c1_i32_936
  let c32_i32_937 : BitVec 32 := 32#32
  let v2450 : BitVec 32 := Scalar.muli v2449 c32_i32_937
  let v2451 : BitVec 32 := v2450
  let v4610 : Index := Scalar.indexCast v2451
  let c4992_1766 : Index := 4992#32
  ![v4610.toNat, 4992]
def k0_off88 (k0_t2 : Fin k0_t2_loop.trips) : Fin 2 → Nat :=
  let c1_i32_542 : BitVec 32 := 1#32
  let c1_i32_543 : BitVec 32 := 1#32
  let arg26 : BitVec 32 := Scf.iv c1_i32_542 c1_i32_543 k0_t2
  let c32_i32_935 : BitVec 32 := 32#32
  let v2447 : BitVec 32 := Scalar.muli arg26 c32_i32_935
  let v2448 : BitVec 32 := v2447
  let v4623 : Index := Scalar.indexCast v2448
  let c4992_1767 : Index := 4992#32
  ![v4623.toNat, 4992]
def k0_mult11 : BitVec 32 :=
  let c1856_i32 : BitVec 32 := 1856#32
  c1856_i32
def k0_mult12 : BitVec 32 :=
  let c1888_i32 : BitVec 32 := 1888#32
  c1888_i32
def k0_mult13 : BitVec 32 :=
  let c1888_i32_916 : BitVec 32 := 1888#32
  c1888_i32_916
@[reducible] def k0_t3_loop : Scf.Loop 32 :=
  let c0_i32_919 : BitVec 32 := 0#32
  let c60_i32_920 : BitVec 32 := 60#32
  let v2425 : BitVec 32 := Scalar.addi c0_i32_919 c60_i32_920
  let c1_i32_921 : BitVec 32 := 1#32
  ⟨c0_i32_919, v2425, c1_i32_921⟩
def k0_mult14 (k0_t3 : Fin k0_t3_loop.trips) : BitVec 32 :=
  let c0_i32_927 : BitVec 32 := 0#32
  let c0_i32_919 : BitVec 32 := 0#32
  let c1_i32_921 : BitVec 32 := 1#32
  let arg26 : BitVec 32 := Scf.iv c0_i32_919 c1_i32_921 k0_t3
  let c1_i32_926 : BitVec 32 := 1#32
  let v2432 : BitVec 32 := Scalar.muli arg26 c1_i32_926
  let v2433 : BitVec 32 := Scalar.addi c0_i32_927 v2432
  let c32_i32 : BitVec 32 := 32#32
  let v2434 : BitVec 32 := Scalar.muli v2433 c32_i32
  v2434
def k0_off89 (k0_t3 : Fin k0_t3_loop.trips) : Fin 2 → Nat :=
  let c0_i32_927 : BitVec 32 := 0#32
  let c0_i32_919 : BitVec 32 := 0#32
  let c1_i32_921 : BitVec 32 := 1#32
  let arg26 : BitVec 32 := Scf.iv c0_i32_919 c1_i32_921 k0_t3
  let c1_i32_926 : BitVec 32 := 1#32
  let v2432 : BitVec 32 := Scalar.muli arg26 c1_i32_926
  let v2433 : BitVec 32 := Scalar.addi c0_i32_927 v2432
  let c32_i32 : BitVec 32 := 32#32
  let v2434 : BitVec 32 := Scalar.muli v2433 c32_i32
  let v2435 : BitVec 32 := v2434
  let c0_i32_928 : BitVec 32 := 0#32
  ![v2435.toNat, 0]
-- ==== KernelIdeal.lean ====
variable {F : FTy → Type} [FloatOps F] [Named F]
def κ : String → Option EReal := fun
  | "inv_d" => some ((1 / 5120 : ℝ) : EReal)
  | _ => none
-- ==== ReferenceIdeal.lean ====
abbrev S3x640x5120 : Shape := ⟨3, ![3, 640, 5120]⟩
abbrev S5120 : Shape := ⟨1, ![5120]⟩
abbrev S3x640 : Shape := ⟨2, ![3, 640]⟩
abbrev S16 : Shape := ⟨1, ![16]⟩
abbrev S1920x5120 : Shape := ⟨2, ![1920, 5120]⟩
abbrev S1x5120 : Shape := ⟨2, ![1, 5120]⟩
abbrev S1920x1 : Shape := ⟨2, ![1920, 1]⟩
abbrev S1x16 : Shape := ⟨2, ![1, 16]⟩
abbrev S1x1 : Shape := ⟨2, ![1, 1]⟩
abbrev S1920 : Shape := ⟨1, ![1920]⟩
abbrev S1 : Shape := ⟨1, ![1]⟩
abbrev S1x254 : Shape := ⟨2, ![1, 254]⟩

abbrev nBuf : Space → Nat
  | .hbm => 14
  | .vmem => 9
  | .smem => 0
  | _ => 0

abbrev bufTy : (tb : Table) → Fin (tcTables nBuf tb) → BufTy
  | .hbm, ⟨0, _⟩ => ⟨S3x640x5120, .bf16⟩
  | .hbm, ⟨1, _⟩ => ⟨S3x640x5120, .bf16⟩
  | .hbm, ⟨2, _⟩ => ⟨S5120, .f32⟩
  | .hbm, ⟨3, _⟩ => ⟨S3x640, .f32⟩
  | .hbm, ⟨4, _⟩ => ⟨S16, .f32⟩
  | .hbm, ⟨5, _⟩ => ⟨S1920x5120, .bf16⟩
  | .hbm, ⟨6, _⟩ => ⟨S1920x5120, .bf16⟩
  | .hbm, ⟨7, _⟩ => ⟨S1x5120, .f32⟩
  | .hbm, ⟨8, _⟩ => ⟨S1920x1, .f32⟩
  | .hbm, ⟨9, _⟩ => ⟨S1x16, .f32⟩
  | .hbm, ⟨10, _⟩ => ⟨S1x5120, .f32⟩
  | .hbm, ⟨11, _⟩ => ⟨S1920x5120, .fp8e5m2⟩
  | .hbm, ⟨12, _⟩ => ⟨S1x1, .f32⟩
  | .hbm, ⟨13, _⟩ => ⟨S1x1, .f32⟩
  | .local _ .vmem, ⟨0, _⟩ => ⟨S1920x5120, .bf16⟩
  | .local _ .vmem, ⟨1, _⟩ => ⟨S1920x5120, .bf16⟩
  | .local _ .vmem, ⟨2, _⟩ => ⟨S1x5120, .f32⟩
  | .local _ .vmem, ⟨3, _⟩ => ⟨S1920x1, .f32⟩
  | .local _ .vmem, ⟨4, _⟩ => ⟨S1x16, .f32⟩
  | .local _ .vmem, ⟨5, _⟩ => ⟨S1x5120, .f32⟩
  | .local _ .vmem, ⟨6, _⟩ => ⟨S1920x5120, .fp8e5m2⟩
  | .local _ .vmem, ⟨7, _⟩ => ⟨S1x1, .f32⟩
  | .local _ .vmem, ⟨8, _⟩ => ⟨S1x1, .f32⟩
  | _, _ => ⟨S3x640x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1920x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1920x5120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1920x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1920x5120 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Plain.lean ====
/- The kernel's body written over lane tiles and row groups: what each tile of statements loads, computes and
   stores, as one program for every tile and one for every group. It is stated over any signature, any float
   interpretation and any buffers, so that the printed kernel and its idealization are both instances. -/
module

public import Idealize.ShloMosaic.Lib.Pipeline
public import Idealize.ShloMosaic.Lib.Scf
public import Idealize.ShloMosaic.Lib.Sig
public import Idealize.ShloMosaic.PureOps

@[expose] public section

noncomputable section

namespace Rms

open Idealize.ShloMosaic Idealize.SL.Sem

/-! ## Shapes -/

abbrev S1920x5120 : Shape := ⟨2, ![1920, 5120]⟩
abbrev S3x640 : Shape := ⟨2, ![3, 640]⟩
abbrev S1x5120 : Shape := ⟨2, ![1, 5120]⟩
abbrev S1x16 : Shape := ⟨2, ![1, 16]⟩
abbrev S1x1 : Shape := ⟨2, ![1, 1]⟩
abbrev S32x5120 : Shape := ⟨2, ![32, 5120]⟩
abbrev S1920x128 : Shape := ⟨2, ![1920, 128]⟩
abbrev S8x5120 : Shape := ⟨2, ![8, 5120]⟩
abbrev S2x60 : Shape := ⟨2, ![2, 60]⟩
abbrev S_ : Shape := ⟨0, ![]⟩
abbrev S6 : Shape := ⟨1, ![6]⟩
abbrev S1 : Shape := ⟨1, ![1]⟩
abbrev S1x255 : Shape := ⟨2, ![1, 255]⟩
abbrev S1x128 : Shape := ⟨2, ![1, 128]⟩
abbrev S128x128 : Shape := ⟨2, ![128, 128]⟩
abbrev S32x128 : Shape := ⟨2, ![32, 128]⟩
abbrev S8x128 : Shape := ⟨2, ![8, 128]⟩
abbrev S32 : Shape := ⟨1, ![32]⟩
abbrev S32x1 : Shape := ⟨2, ![32, 1]⟩
abbrev S128 : Shape := ⟨1, ![128]⟩
abbrev S5120 : Shape := ⟨1, ![5120]⟩

/-- A row at which a group of 32 rows of the 1920 starts. -/
abbrev Row (R : ℕ) : Prop := R + 32 ≤ 1920 ∧ 32 ∣ R

theorem inb_tile {R : ℕ} (h : Row R) (t : Fin 40) : ∀ a, (![R, 128 * t.val] : Fin 2 → ℕ) a + S32x128.size a ≤ S1920x5120.size a :=
  Fin.forall_fin_two.mpr ⟨h.1, by show 128 * t.val + 128 ≤ 5120; omega⟩
theorem inb_blk {R : ℕ} (h : Row R) : ∀ a, (![R, 0] : Fin 2 → ℕ) a + S32x5120.size a ≤ S1920x5120.size a :=
  Fin.forall_fin_two.mpr ⟨h.1, Nat.le_refl _⟩
theorem inb_r {R : ℕ} (h : Row R) : ∀ a, (![R, 0] : Fin 2 → ℕ) a + S32x128.size a ≤ S1920x128.size a :=
  Fin.forall_fin_two.mpr ⟨h.1, Nat.le_refl _⟩
theorem inb_32 (t : Fin 40) : ∀ a, (![0, 128 * t.val] : Fin 2 → ℕ) a + S32x128.size a ≤ S32x5120.size a :=
  Fin.forall_fin_two.mpr ⟨Nat.le_refl _, by show 128 * t.val + 128 ≤ 5120; omega⟩
theorem inb_8 (t : Fin 40) : ∀ a, (![0, 128 * t.val] : Fin 2 → ℕ) a + S8x128.size a ≤ S8x5120.size a :=
  Fin.forall_fin_two.mpr ⟨Nat.le_refl _, by show 128 * t.val + 128 ≤ 5120; omega⟩
theorem inb_1 (t : Fin 40) : ∀ a, (![0, 128 * t.val] : Fin 2 → ℕ) a + S1x128.size a ≤ S1x5120.size a :=
  Fin.forall_fin_two.mpr ⟨Nat.le_refl _, by show 128 * t.val + 128 ≤ 5120; omega⟩
theorem inb_rs (b : Fin 3) (j : Fin 5) : ∀ a, (![b.val, 128 * j.val] : Fin 2 → ℕ) a + S1x128.size a ≤ S3x640.size a :=
  Fin.forall_fin_two.mpr ⟨by show b.val + 1 ≤ 3; omega, by show 128 * j.val + 128 ≤ 640; omega⟩
theorem inb_rt (b : Fin 3) (j : Fin 5) : ∀ a, (![640 * b.val + 128 * j.val, 0] : Fin 2 → ℕ) a + S128x128.size a ≤ S1920x128.size a :=
  Fin.forall_fin_two.mpr ⟨by show 640 * b.val + 128 * j.val + 128 ≤ 1920; omega, Nat.le_refl _⟩
theorem inb_sem (i : Fin 2) {g : ℕ} (h : g < 60) : ∀ a, (![i.val, g] : Fin 2 → ℕ) a + S1x1.size a ≤ S2x60.size a :=
  Fin.forall_fin_two.mpr ⟨by show i.val + 1 ≤ 2; omega, by show g + 1 ≤ 60; omega⟩
theorem inb_sm (i : Fin 6) : ∀ a, (![i.val] : Fin 1 → ℕ) a + S1.size a ≤ S6.size a :=
  fun a => by obtain rfl : a = 0 := Subsingleton.elim _ _; show i.val + 1 ≤ 6; omega
theorem inb_zero {n m : ℕ} : ∀ a, (![0, 0] : Fin 2 → ℕ) a + (⟨2, ![n, m]⟩ : Shape).size a ≤ (⟨2, ![n, m]⟩ : Shape).size a :=
  fun a => Nat.le_of_eq (by refine Fin.cases ?_ (fun a => ?_) a <;> first | exact Nat.zero_add _ | (obtain rfl : a = 0 := Subsingleton.elim _ _; exact Nat.zero_add _))

/-- A group's rectangle takes whole words of any element type of at most 32 to a word's rows. -/
theorem words_blk {R : ℕ} (h : Row R) (p : ℕ) (hp : p ∣ 32) :
    (Rect.unit (s := S1920x5120) ![R, 0] S32x5120.size (inb_blk h)).WholeWords p :=
  .inl (.inr ⟨Nat.le_refl 2, rfl, .inl ⟨show p ∣ R from hp.trans h.2, show p ∣ 32 from hp⟩⟩)
theorem packed_tile {R : ℕ} (h : Row R) (t : Fin 40) (p : ℕ) (hp : p ∣ 32) :
    (Rect.unit (s := S1920x5120) ![R, 128 * t.val] S32x128.size (inb_tile h t)).PackedRows p :=
  .inr ⟨Nat.le_refl 2, rfl, .inl ⟨show p ∣ R from hp.trans h.2, show p ∣ 32 from hp⟩⟩

theorem n32x128 : 0 < S32x128.numel := by decide
theorem n8x128 : 0 < S8x128.numel := by decide
theorem n1x128 : 0 < S1x128.numel := by decide
theorem n128x128 : 0 < S128x128.numel := by decide
theorem n1x1 : 0 < S1x1.numel := by decide
theorem n1x16 : 0 < S1x16.numel := by decide
theorem n1x5120 : 0 < S1x5120.numel := by decide
theorem n8x5120 : 0 < S8x5120.numel := by decide
theorem casts (s : Shape) : s.ShapeCasts s := rfl
theorem sl0 : S32x128.Slices ![0, 0] S8x128 := by decide
theorem sl8 : S32x128.Slices ![8, 0] S8x128 := by decide
theorem sl16 : S32x128.Slices ![16, 0] S8x128 := by decide
theorem sl24 : S32x128.Slices ![24, 0] S8x128 := by decide
theorem bLane : S1x128.Broadcasts S32x128 := by decide
theorem bLane128 : S1x128.Broadcasts S128x128 := by decide
theorem bCol : S32x1.Broadcasts S32x128 := by decide
theorem bOneCol : S1x1.Broadcasts S32x1 := by decide
theorem bOneRow : S1x1.Broadcasts S1x5120 := by decide
theorem bOne255 : S1x1.Broadcasts S1x255 := by decide
theorem tr128 : S128x128.Transposes [1, 0] S128x128 := by decide
theorem rd32 : S32x128.Reduces [1] S32 := by decide
theorem rd16 : S1x16.Reduces [1] S1 := by decide
theorem rd255 : S1x255.Reduces [1] S1 := by decide
theorem rd8 : S8x5120.Reduces [0] S5120 := by decide
theorem rd8m : S8x128.Reduces [0] S128 := by decide
theorem rd1m : S1x128.Reduces [1] S1 := by decide
theorem c1 : S1.ShapeCasts S1x1 := by decide
theorem c32 : S32.ShapeCasts S32x1 := by decide
theorem c5120 : S5120.ShapeCasts S1x5120 := by decide
theorem c128 : S128.ShapeCasts S1x128 := by decide
theorem io255 : S1x255.Iotas .tc 32 [1] := by decide
theorem lt16 : FTy.bits .bf16 < FTy.bits .f32 := by decide
theorem lt8 : FTy.bits .fp8e5m2 < FTy.bits .f32 := by decide
theorem sq1 : S1.Squeezes S_ := by decide
theorem sq11 : S1x1.Squeezes S_ := by decide

/-! ## The kernel's values, a tile at a time -/

variable {F : FTy → Type} [FloatOps F]

/-- A tile of `dy·rstd`. -/
def dysT (dy : FVec F S32x128 .bf16) (r : FVec F S32x128 .f32) : FVec F S32x128 .f32 := mulf (extf .f32 dy lt16) r
/-- A tile of `x` widened. -/
def x32T (x : FVec F S32x128 .bf16) : FVec F S32x128 .f32 := extf .f32 x lt16
/-- The four 8-row slabs of a 32-row tile added up. -/
def partT (q : FVec F S32x128 .f32) : FVec F S8x128 .f32 :=
  addf (addf (addf (extractStridedSlice S8x128 ![0, 0] q sl0) (extractStridedSlice S8x128 ![8, 0] q sl8))
    (extractStridedSlice S8x128 ![16, 0] q sl16)) (extractStridedSlice S8x128 ![24, 0] q sl24)
/-- The running sum over tiles of `dys·x·gamma`: the first tile starts it. -/
def accT (t : ℕ) (acc : FVec F S32x128 .f32) (q : FVec F S32x128 .f32) (ga : FVec F S1x128 .f32) : FVec F S32x128 .f32 :=
  match t with
  | 0 => mulf q (broadcastTo S32x128 ga bLane)
  | _ + 1 => addf acc (mulf q (broadcastTo S32x128 ga bLane))
/-- A group's coefficient of `x`, from the running sum over its lanes. -/
def coefT (invd : F .f32) (inv : FVec F S1x1 .f32) (r acc : FVec F S32x128 .f32) : FVec F S32x128 .f32 :=
  mulf (mulf r r) (broadcastTo S32x128 (mulf (mulf (shapeCast S32x1 (multiReduction .add [1] S32 acc 0x00000000#32 rd32 (.inl rfl) rfl) c32)
    (broadcast S32x1 invd)) (broadcastTo S32x1 inv bOneCol)) bCol)
/-- A tile of the scaled gradient. -/
def wT (dys : FVec F S32x128 .f32) (gi : FVec F S1x128 .f32) (x32 coef : FVec F S32x128 .f32) : FVec F S32x128 .f32 :=
  subf (mulf dys (broadcastTo S32x128 gi bLane)) (mulf x32 coef)
/-- Its codes. -/
def codeT (w : FVec F S32x128 .f32) : FVec F S32x128 .fp8e5m2 :=
  truncf .fp8e5m2 (minimumf (broadcast S32x128 (Scalar.ofBits .f32 0x47600000#32)) (maximumf (broadcast S32x128 (Scalar.ofBits .f32 0xC7600000#32)) w)) lt8
/-- The four running maxima. -/
abbrev M4 (F : FTy → Type) : Type := FVec F S8x128 .f32 × FVec F S8x128 .f32 × FVec F S8x128 .f32 × FVec F S8x128 .f32
/-- The running maxima after a tile. -/
def maxT (w : FVec F S32x128 .f32) (m : M4 F) : M4 F :=
  (maximumf m.1 (extractStridedSlice S8x128 ![0, 0] (absf w) sl0), maximumf m.2.1 (extractStridedSlice S8x128 ![8, 0] (absf w) sl8),
    maximumf m.2.2.1 (extractStridedSlice S8x128 ![16, 0] (absf w) sl16), maximumf m.2.2.2 (extractStridedSlice S8x128 ![24, 0] (absf w) sl24))
/-- The maxima before the first tile. -/
def max0 : M4 F := (broadcast S8x128 (Scalar.ofBits .f32 0x00000000#32), broadcast S8x128 (Scalar.ofBits .f32 0x00000000#32),
  broadcast S8x128 (Scalar.ofBits .f32 0x00000000#32), broadcast S8x128 (Scalar.ofBits .f32 0x00000000#32))

/-- The counts 1 to 255. -/
def kV : IVec S1x255 32 := addi (iota .tc S1x255 32 [1] io255) (broadcast S1x255 1#32)
/-- The biased exponent of the largest entry of the history, as a count. -/
def biasedV (h : FVec F S1x16 .f32) : IVec S1x1 32 :=
  shapeCast S1x1 (multiReductionI .maxsi [1] S1
    (select (cmpf .oge (broadcastTo S1x255 (absf (mulf (shapeCast S1x1 (multiReduction .maximumf [1] S1 h 0xFF800000#32 rd16 (.inl rfl) rfl) c1)
        (broadcast S1x1 (Scalar.ofBits .f32 0x37924925#32)))) bOne255)
      (bitcastToFloat .f32 (shli kV (broadcast S1x255 23#32)))) kV (broadcast S1x255 0#32)) 2147483648#32 rd255 rfl) c1
/-- The scale's exponent. -/
def expV (h : FVec F S1x16 .f32) : IVec S1x1 32 :=
  select (ori (cmpi .eq (biasedV h) (broadcast S1x1 0#32)) (cmpi .eq (biasedV h) (broadcast S1x1 255#32)))
    (broadcast S1x1 0#32) (subi (biasedV h) (broadcast S1x1 126#32))
/-- The scale. -/
def scaleV (h : FVec F S1x16 .f32) : FVec F S1x1 .f32 := bitcastToFloat .f32 (shli (addi (broadcast S1x1 127#32) (expV h)) (broadcast S1x1 23#32))
/-- Its inverse. -/
def invV (h : FVec F S1x16 .f32) : FVec F S1x1 .f32 := bitcastToFloat .f32 (shli (subi (broadcast S1x1 127#32) (expV h)) (broadcast S1x1 23#32))
/-- `gamma` scaled. -/
def giV (inv : FVec F S1x1 .f32) (ga : FVec F S1x5120 .f32) : FVec F S1x5120 .f32 := mulf ga (broadcastTo S1x5120 inv bOneRow)
/-- 128 row entries of `rstd` down 128 lanes. -/
def rtV (r : FVec F S1x128 .f32) : FVec F S128x128 .f32 := transpose S128x128 [1, 0] (broadcastTo S128x128 (shapeCast S1x128 r (casts _)) bLane128) tr128
/-- The eight slabs of `dgamma` added up. -/
def dgV (d : FVec F S8x5120 .f32) : FVec F S1x5120 .f32 := shapeCast S1x5120 (multiReduction .add [0] S5120 d 0x00000000#32 rd8 (.inl rfl) rfl) c5120
/-- The largest scaled gradient, scaled back. -/
def amaxV (sc : FVec F S1x1 .f32) (m : M4 F) : FVec F S1x1 .f32 :=
  mulf (shapeCast S1x1 (multiReduction .maximumf [1] S1 (shapeCast S1x128 (multiReduction .maximumf [0] S128
    (maximumf (maximumf (maximumf m.1 m.2.1) m.2.2.1) m.2.2.2) 0xFF800000#32 rd8m (.inl rfl) rfl) c128) 0xFF800000#32 rd1m (.inl rfl) rfl) c1) sc

/-! ## The buffers and the program -/

/-- The kernel's operands: its arrays in HBM, its scratch buffers and its semaphores. -/
structure Bufs (sig : RefSig) where
  x : Memref sig .tc .hbm S1920x5120 .bf16
  hx : x.IsWhole
  dy : Memref sig .tc .hbm S1920x5120 .bf16
  hdy : dy.IsWhole
  ga : Memref sig .tc .hbm S1x5120 .f32
  hga : ga.IsWhole
  rs : Memref sig .tc .hbm S3x640 .f32
  hrs : rs.IsWhole
  hist : Memref sig .tc .hbm S1x16 .f32
  hhist : hist.IsWhole
  odg : Memref sig .tc .hbm S1x5120 .f32
  hodg : odg.IsWhole
  ocodes : Memref sig .tc .hbm S1920x5120 .fp8e5m2
  hocodes : ocodes.IsWhole
  oscale : Memref sig .tc .hbm S1x1 .f32
  hoscale : oscale.IsWhole
  oamax : Memref sig .tc .hbm S1x1 .f32
  hoamax : oamax.IsWhole
  xv : Memref sig .tc .vmem S1920x5120 .bf16
  hxv : xv.IsWhole
  dyv : Memref sig .tc .vmem S1920x5120 .bf16
  hdyv : dyv.IsWhole
  codes : Memref sig .tc .vmem S1920x5120 .fp8e5m2
  hcodes : codes.IsWhole
  x32 : Memref sig .tc .vmem S32x5120 .f32
  hx32 : x32.IsWhole
  dys : Memref sig .tc .vmem S32x5120 .f32
  hdys : dys.IsWhole
  rv : Memref sig .tc .vmem S1920x128 .f32
  hrv : rv.IsWhole
  gav : Memref sig .tc .vmem S1x5120 .f32
  hgav : gav.IsWhole
  gi : Memref sig .tc .vmem S1x5120 .f32
  hgi : gi.IsWhole
  rsv : Memref sig .tc .vmem S3x640 .f32
  hrsv : rsv.IsWhole
  histv : Memref sig .tc .vmem S1x16 .f32
  hhistv : histv.IsWhole
  dg : Memref sig .tc .vmem S8x5120 .f32
  hdg : dg.IsWhole
  dgo : Memref sig .tc .vmem S1x5120 .f32
  hdgo : dgo.IsWhole
  scale : Memref sig .tc .vmem S1x1 .f32
  hscale : scale.IsWhole
  amax : Memref sig .tc .vmem S1x1 .f32
  hamax : amax.IsWhole
  insem : DmaSems sig S2x60
  outsem : DmaSems sig S_
  smsem : DmaSems sig S6

variable {nD : Nat} {τ : Topo} {sig : RefSig} {Λ : Labels}

/-- A load of a unit-stride rectangle. -/
abbrev ld {s : Shape} {e : EltTy} (m : Memref sig .tc .vmem s e) (off size : Fin s.rank → ℕ) (inb : ∀ a, off a + size a ≤ s.size a)
    (hn : 0 < (⟨s.rank, size⟩ : Shape).numel) : Prog (TpuEff nD τ sig (Elt F) Λ .tc) ((⟨s.rank, size⟩ : Shape).Idx → Elt F e) :=
  Prog.lift (.load m (Rect.unit (s := s) off size inb).toLoadRect (View.loadsAt_vmem hn))
/-- A store of a unit-stride rectangle of 32-bit elements. -/
abbrev st {s : Shape} (m : Memref sig .tc .vmem s .f32) (off size : Fin s.rank → ℕ) (inb : ∀ a, off a + size a ≤ s.size a)
    (hn : 0 < (⟨s.rank, size⟩ : Shape).numel) (w : (⟨s.rank, size⟩ : Shape).Idx → Elt F .f32) : Prog (TpuEff nD τ sig (Elt F) Λ .tc) PUnit :=
  Prog.lift (.store m (Rect.unit (s := s) off size inb) w Finset.univ (View.stores_vmem_bits_univ hn rfl) (.inl rfl))

/-- A group's rows of an array. -/
abbrev blk {sp : Space} {e : EltTy} (m : Memref sig .tc sp S1920x5120 e) (R : ℕ) (h : Row R) : Memref sig .tc sp S32x5120 e :=
  m.slice (Rect.unit (s := S1920x5120) ![R, 0] S32x5120.size (inb_blk h)) (fun _ => rfl)
/-- The semaphore of group `g`'s copy of `x` (`i = 0`) or `dy` (`i = 1`). -/
abbrev inSem (b : Bufs sig) (i : Fin 2) (g : ℕ) (h : g < 60) : DmaSem sig :=
  ((b.insem.slice (Rect.unit (s := S2x60) ![i.val, g] S1x1.size (inb_sem i h))).squeeze S_ sq11).sem
/-- The small copies' semaphores. -/
abbrev smSem (b : Bufs sig) (i : Fin 6) : DmaSem sig :=
  ((b.smsem.slice (Rect.unit (s := S6) ![i.val] S1.size (inb_sm i))).squeeze S_ sq1).sem

/-- Start group `g`'s copies of `x` and `dy`. -/
def startIn (b : Bufs sig) (g : ℕ) (hg : g < 60) (R : ℕ) (h : Row R) : Prog (TpuEff nD τ sig (Elt F) Λ .tc) PUnit := do
  Prog.lift (.enqueueDma (blk b.x R h) (.here (blk b.xv R h)) (.dma (inSem b 0 g hg)) (b.hx.wordExact_slice rfl _ (words_blk h _ (by decide)))
    (b.hxv.wordExact_slice rfl _ (words_blk h _ (by decide))) ⟨Or.inl rfl, trivial⟩)
  Prog.lift (.enqueueDma (blk b.dy R h) (.here (blk b.dyv R h)) (.dma (inSem b 1 g hg)) (b.hdy.wordExact_slice rfl _ (words_blk h _ (by decide)))
    (b.hdyv.wordExact_slice rfl _ (words_blk h _ (by decide))) ⟨Or.inl rfl, trivial⟩)
  pure ⟨⟩

/-- Wait for group `g`'s copies of `x` and `dy`. -/
def waitIn (b : Bufs sig) (g : ℕ) (hg : g < 60) (R : ℕ) (h : Row R) : Prog (TpuEff nD τ sig (Elt F) Λ .tc) PUnit := do
  Prog.lift (.waitDma2 (inSem b 0 g hg) (blk b.x R h) (blk b.xv R h) (b.hx.wordExact_slice rfl _ (words_blk h _ (by decide)))
    (b.hxv.wordExact_slice rfl _ (words_blk h _ (by decide))))
  Prog.lift (.waitDma2 (inSem b 1 g hg) (blk b.dy R h) (blk b.dyv R h) (b.hdy.wordExact_slice rfl _ (words_blk h _ (by decide)))
    (b.hdyv.wordExact_slice rfl _ (words_blk h _ (by decide))))

/-- Start the copy out of the codes of the group at row `R`. -/
def startOut (b : Bufs sig) (R : ℕ) (h : Row R) : Prog (TpuEff nD τ sig (Elt F) Λ .tc) PUnit :=
  Prog.lift (.enqueueDma (blk b.codes R h) (.here (blk b.ocodes R h)) (.dma b.outsem.sem) (b.hcodes.wordExact_slice rfl _ (words_blk h _ (by decide)))
    (b.hocodes.wordExact_slice rfl _ (words_blk h _ (by decide))) ⟨Or.inl rfl, trivial⟩)

/-- Wait for one copy out of codes. -/
def waitOut (b : Bufs sig) (R : ℕ) (h : Row R) : Prog (TpuEff nD τ sig (Elt F) Λ .tc) PUnit :=
  Prog.lift (.waitDma2 b.outsem.sem (blk b.codes R h) (blk b.ocodes R h) (b.hcodes.wordExact_slice rfl _ (words_blk h _ (by decide)))
    (b.hocodes.wordExact_slice rfl _ (words_blk h _ (by decide))))

/-- One lane tile of a group's statistics, from the group at row `R` with its `rstd` rows `r`. -/
def statsTile (b : Bufs sig) (R : ℕ) (h : Row R) (r : FVec F S32x128 .f32) (t : Fin 40) (acc : FVec F S32x128 .f32) :
    Prog (TpuEff nD τ sig (Elt F) Λ .tc) (FVec F S32x128 .f32) := do
  let x : FVec F S32x128 .bf16 ← ld b.xv ![R, 128 * t.val] S32x128.size (inb_tile h t) n32x128
  let dy : FVec F S32x128 .bf16 ← ld b.dyv ![R, 128 * t.val] S32x128.size (inb_tile h t) n32x128
  let _ ← ld b.x32 ![0, 128 * t.val] S32x128.size (inb_32 t) n32x128
  st b.x32 ![0, 128 * t.val] S32x128.size (inb_32 t) n32x128 (shapeCast S32x128 (x32T x) (casts _))
  let _ ← ld b.dys ![0, 128 * t.val] S32x128.size (inb_32 t) n32x128
  st b.dys ![0, 128 * t.val] S32x128.size (inb_32 t) n32x128 (shapeCast S32x128 (dysT dy r) (casts _))
  let d : FVec F S8x128 .f32 ← ld b.dg ![0, 128 * t.val] S8x128.size (inb_8 t) n8x128
  let _ ← ld b.dg ![0, 128 * t.val] S8x128.size (inb_8 t) n8x128
  st b.dg ![0, 128 * t.val] S8x128.size (inb_8 t) n8x128 (shapeCast S8x128 (addf d (partT (mulf (dysT dy r) (x32T x)))) (casts _))
  let ga : FVec F S1x128 .f32 ← ld b.gav ![0, 128 * t.val] S1x128.size (inb_1 t) n1x128
  pure (accT t.val acc (mulf (dysT dy r) (x32T x)) ga)

/-- One lane tile of a group's codes, for the group at row `R` with coefficient `coef`. -/
def gradTile (b : Bufs sig) (R : ℕ) (h : Row R) (coef : FVec F S32x128 .f32) (t : Fin 40) (m : M4 F) :
    Prog (TpuEff nD τ sig (Elt F) Λ .tc) (M4 F) := do
  let dys : FVec F S32x128 .f32 ← ld b.dys ![0, 128 * t.val] S32x128.size (inb_32 t) n32x128
  let gi : FVec F S1x128 .f32 ← ld b.gi ![0, 128 * t.val] S1x128.size (inb_1 t) n1x128
  let x32 : FVec F S32x128 .f32 ← ld b.x32 ![0, 128 * t.val] S32x128.size (inb_32 t) n32x128
  let _ ← ld b.codes ![R, 128 * t.val] S32x128.size (inb_tile h t) n32x128
  Prog.lift (.store b.codes (Rect.unit (s := S1920x5120) ![R, 128 * t.val] S32x128.size (inb_tile h t))
    (shapeCast S32x128 (codeT (wT dys gi x32 coef)) (casts _)) Finset.univ
    (View.stores_vmem n32x128 (b.hcodes.storeExact_slice rfl _ (packed_tile h t _ (by decide))) (fun _ => rfl)) (.inl rfl))
  pure (maxT (wT dys gi x32 coef) m)

/-- The forty lane tiles. -/
def tiles : List (Fin 40) := [0, 1, 2, 3, 4, 5, 6, 7, 8, 9, 10, 11, 12, 13, 14, 15, 16, 17, 18, 19, 20, 21, 22, 23, 24, 25, 26, 27, 28, 29, 30, 31,
  32, 33, 34, 35, 36, 37, 38, 39]

/-- The first group's statistics. -/
def statsAll (b : Bufs sig) (R : ℕ) (h : Row R) (r : FVec F S32x128 .f32) : Prog (TpuEff nD τ sig (Elt F) Λ .tc) (FVec F S32x128 .f32) :=
  Scf.forFrom (fun t acc => statsTile b R h r t acc) tiles r
/-- The last group's codes. -/
def gradAll (b : Bufs sig) (R : ℕ) (h : Row R) (coef : FVec F S32x128 .f32) (m : M4 F) : Prog (TpuEff nD τ sig (Elt F) Λ .tc) (M4 F) :=
  Scf.forFrom (fun t m => gradTile b R h coef t m) tiles m
/-- A group's statistics and the codes of the one before, tile by tile. -/
def bothAll (b : Bufs sig) (P : ℕ) (hP : Row P) (R : ℕ) (hR : Row R) (coef r : FVec F S32x128 .f32) (m : M4 F) :
    Prog (TpuEff nD τ sig (Elt F) Λ .tc) (M4 F × FVec F S32x128 .f32) :=
  Scf.forFrom (fun t (a : M4 F × FVec F S32x128 .f32) => do
    let m' ← gradTile b P hP coef t a.1
    let acc' ← statsTile b R hR r t a.2
    pure (m', acc')) tiles (m, r)

/-- Spread `rstd` over the lanes, 128 rows at a time. -/
def fill (b : Bufs sig) (i : Fin 3) (j : Fin 5) : Prog (TpuEff nD τ sig (Elt F) Λ .tc) PUnit := do
  let r : FVec F S1x128 .f32 ← ld b.rsv ![i.val, 128 * j.val] S1x128.size (inb_rs i j) n1x128
  let _ ← ld b.rv ![640 * i.val + 128 * j.val, 0] S128x128.size (inb_rt i j) n128x128
  st b.rv ![640 * i.val + 128 * j.val, 0] S128x128.size (inb_rt i j) n128x128 (shapeCast S128x128 (rtV r) (casts _))
/-- The fifteen spreads. -/
def fills : List (Fin 3 × Fin 5) := [(0, 0), (0, 1), (0, 2), (0, 3), (0, 4), (1, 0), (1, 1), (1, 2), (1, 3), (1, 4), (2, 0), (2, 1), (2, 2), (2, 3), (2, 4)]
/-- All of them. -/
def fillAll (b : Bufs sig) : List (Fin 3 × Fin 5) → Prog (TpuEff nD τ sig (Elt F) Λ .tc) PUnit
  | [] => pure ⟨⟩
  | p :: ps => do
    fill b p.1 p.2
    fillAll b ps

/-- Start the three small copies in. -/
def startSmall (b : Bufs sig) : Prog (TpuEff nD τ sig (Elt F) Λ .tc) PUnit := do
  Prog.lift (.enqueueDma b.rs (.here b.rsv) (.dma (smSem b 0)) b.hrs.wordExact b.hrsv.wordExact ⟨Or.inl rfl, trivial⟩)
  Prog.lift (.enqueueDma b.ga (.here b.gav) (.dma (smSem b 1)) b.hga.wordExact b.hgav.wordExact ⟨Or.inl rfl, trivial⟩)
  Prog.lift (.enqueueDma b.hist (.here b.histv) (.dma (smSem b 2)) b.hhist.wordExact b.hhistv.wordExact ⟨Or.inl rfl, trivial⟩)

/-- Wait for them. -/
def waitSmall (b : Bufs sig) : Prog (TpuEff nD τ sig (Elt F) Λ .tc) PUnit := do
  Prog.lift (.waitDma2 (smSem b 0) b.rs b.rsv b.hrs.wordExact b.hrsv.wordExact)
  Prog.lift (.waitDma2 (smSem b 1) b.ga b.gav b.hga.wordExact b.hgav.wordExact)
  Prog.lift (.waitDma2 (smSem b 2) b.hist b.histv b.hhist.wordExact b.hhistv.wordExact)

/-- The scale, the scaled gamma, the zeroed sums and the spread `rstd`; returns the inverse scale and the scale. -/
def setup (b : Bufs sig) : Prog (TpuEff nD τ sig (Elt F) Λ .tc) (FVec F S1x1 .f32 × FVec F S1x1 .f32) := do
  let h : FVec F S1x16 .f32 ← ld b.histv ![0, 0] S1x16.size inb_zero n1x16
  let _ ← ld b.scale ![0, 0] S1x1.size inb_zero n1x1
  st b.scale ![0, 0] S1x1.size inb_zero n1x1 (shapeCast S1x1 (scaleV h) (casts _))
  let ga : FVec F S1x5120 .f32 ← ld b.gav ![0, 0] S1x5120.size inb_zero n1x5120
  let _ ← ld b.gi ![0, 0] S1x5120.size inb_zero n1x5120
  st b.gi ![0, 0] S1x5120.size inb_zero n1x5120 (shapeCast S1x5120 (giV (invV h) ga) (casts _))
  let _ ← ld b.dg ![0, 0] S8x5120.size inb_zero n8x5120
  st b.dg ![0, 0] S8x5120.size inb_zero n8x5120 (shapeCast S8x5120 (broadcast S8x5120 (Scalar.ofBits .f32 0x00000000#32)) (casts _))
  fillAll b fills
  pure (invV h, scaleV h)

/-- The first group. -/
def first (b : Bufs sig) (invd : F .f32) (inv : FVec F S1x1 .f32) : Prog (TpuEff nD τ sig (Elt F) Λ .tc) (FVec F S32x128 .f32) := do
  waitIn b 0 (by decide) 0 (by decide)
  let r : FVec F S32x128 .f32 ← ld b.rv ![0, 0] S32x128.size (inb_r (R := 0) (by decide)) n32x128
  let acc ← statsAll b 0 (by decide) r
  pure (coefT invd inv r acc)

/-- What a trip of the main loop does after its waits and its copy out: the codes of the group before and its own
    statistics, and the coefficient they give. -/
def tripWork (b : Bufs sig) (invd : F .f32) (inv : FVec F S1x1 .f32) (P : ℕ) (hP : Row P) (R : ℕ) (hR : Row R) (coef : FVec F S32x128 .f32) (m : M4 F) :
    Prog (TpuEff nD τ sig (Elt F) Λ .tc) (FVec F S32x128 .f32 × M4 F) := do
  let r : FVec F S32x128 .f32 ← ld b.rv ![R, 0] S32x128.size (inb_r hR) n32x128
  let a ← bothAll b P hP R hR coef r m
  pure (coefT invd inv r a.2, a.1)

/-- A trip of the main loop: its group's copies waited for, the codes two groups before copied out if there are any, the work. -/
def trip (b : Bufs sig) (invd : F .f32) (inv : FVec F S1x1 .f32) (g : ℕ) (hg : g < 60) (W : ℕ) (hW : Row W) (cnd : BitVec 1) (Q : ℕ) (hQ : cnd = 1#1 → Row Q)
    (P : ℕ) (hP : Row P) (R : ℕ) (hR : Row R) (c : FVec F S32x128 .f32 × M4 F) : Prog (TpuEff nD τ sig (Elt F) Λ .tc) (FVec F S32x128 .f32 × M4 F) := do
  waitIn b g hg W hW
  (if h : cnd = 1#1 then do
    startOut b Q (hQ h)
    pure ⟨⟩
  else do
    pure ⟨⟩ : Prog (TpuEff nD τ sig (Elt F) Λ .tc) PUnit)
  tripWork b invd inv P hP R hR c.1 c.2

/-- The last group's codes and the small results, and the copies out of them. -/
def last (b : Bufs sig) (sc : FVec F S1x1 .f32) (coef : FVec F S32x128 .f32) (m : M4 F) : Prog (TpuEff nD τ sig (Elt F) Λ .tc) PUnit := do
  startOut b 1856 (by decide)
  let m' ← gradAll b 1888 (by decide) coef m
  let d : FVec F S8x5120 .f32 ← ld b.dg ![0, 0] S8x5120.size inb_zero n8x5120
  let _ ← ld b.dgo ![0, 0] S1x5120.size inb_zero n1x5120
  st b.dgo ![0, 0] S1x5120.size inb_zero n1x5120 (shapeCast S1x5120 (dgV d) (casts _))
  let _ ← ld b.amax ![0, 0] S1x1.size inb_zero n1x1
  st b.amax ![0, 0] S1x1.size inb_zero n1x1 (shapeCast S1x1 (amaxV sc m') (casts _))
  startOut b 1888 (by decide)
  Prog.lift (.enqueueDma b.dgo (.here b.odg) (.dma (smSem b 3)) b.hdgo.wordExact b.hodg.wordExact ⟨Or.inl rfl, trivial⟩)
  Prog.lift (.enqueueDma b.scale (.here b.oscale) (.dma (smSem b 4)) b.hscale.wordExact b.hoscale.wordExact ⟨Or.inl rfl, trivial⟩)
  Prog.lift (.enqueueDma b.amax (.here b.oamax) (.dma (smSem b 5)) b.hamax.wordExact b.hoamax.wordExact ⟨Or.inl rfl, trivial⟩)

/-- Wait for the small results' copies. -/
def waitResults (b : Bufs sig) : Prog (TpuEff nD τ sig (Elt F) Λ .tc) PUnit := do
  Prog.lift (.waitDma2 (smSem b 3) b.dgo b.odg b.hdgo.wordExact b.hodg.wordExact)
  Prog.lift (.waitDma2 (smSem b 4) b.scale b.oscale b.hscale.wordExact b.hoscale.wordExact)
  Prog.lift (.waitDma2 (smSem b 5) b.amax b.oamax b.hamax.wordExact b.hoamax.wordExact)
  pure ⟨⟩

/-! ## The loops, with the registers' arithmetic -/

/-- The loop that starts the copies in, and the one that drains the copies out. -/
@[reducible] def loop60 : Scf.Loop 32 := ⟨0#32, Scalar.addi 0#32 60#32, 1#32⟩
/-- The main loop. -/
@[reducible] def loop59 : Scf.Loop 32 := ⟨1#32, Scalar.addi 1#32 59#32, 1#32⟩
theorem loop60_ok : loop60.OK := by decide
theorem loop59_ok : loop59.OK := by decide

/-- The register of a trip of either 60-trip loop, -/
abbrev reg60 (k : Fin loop60.trips) : BitVec 32 := Scalar.addi 0#32 (Scalar.muli (Scf.iv 0#32 1#32 k.val) 1#32)
/-- and its row. -/
abbrev row60 (k : Fin loop60.trips) : BitVec 32 := Scalar.muli (reg60 k) 32#32
/-- The main loop's register. -/
abbrev reg59 (k : Fin loop59.trips) : BitVec 32 := Scf.iv 1#32 1#32 k.val
abbrev cnd59 (k : Fin loop59.trips) : BitVec 1 := Scalar.cmpi .ne (Scalar.extui (Scalar.cmpi .sge (reg59 k) 2#32) : BitVec 32) 0#32
abbrev rowW (k : Fin loop59.trips) : ℕ := (Scalar.muli (reg59 k) 32#32).toNat
abbrev rowQ (k : Fin loop59.trips) : ℕ := (Scalar.muli (Scalar.subi (reg59 k) 2#32) 32#32).toNat
abbrev rowP (k : Fin loop59.trips) : ℕ := (Scalar.indexCast (Scalar.muli (Scalar.subi (reg59 k) 1#32) 32#32)).toNat
abbrev rowR (k : Fin loop59.trips) : ℕ := (Scalar.indexCast (Scalar.muli (reg59 k) 32#32)).toNat

theorem trips60 : loop60.trips = 60 := by decide
theorem trips59 : loop59.trips = 59 := by decide
theorem reg60_eq : ∀ k : Fin loop60.trips, (reg60 k).toNat = k.val := by decide +kernel
theorem row60_eq : ∀ k : Fin loop60.trips, (row60 k).toNat = 32 * k.val := by decide +kernel
theorem reg59_eq : ∀ k : Fin loop59.trips, (reg59 k).toNat = k.val + 1 := by decide +kernel
theorem cnd59_iff : ∀ k : Fin loop59.trips, cnd59 k = 1#1 ↔ 1 ≤ k.val := by decide +kernel
theorem rowW_eq : ∀ k : Fin loop59.trips, rowW k = 32 * (k.val + 1) := by decide +kernel
theorem rowQ_eq : ∀ k : Fin loop59.trips, cnd59 k = 1#1 → rowQ k = 32 * (k.val - 1) := by decide +kernel
theorem rowP_eq : ∀ k : Fin loop59.trips, rowP k = 32 * k.val := by decide +kernel
theorem rowR_eq : ∀ k : Fin loop59.trips, rowR k = 32 * (k.val + 1) := by decide +kernel

theorem lt60 (k : Fin loop60.trips) : k.val < 60 := trips60 ▸ k.isLt
theorem lt59 (k : Fin loop59.trips) : k.val < 59 := trips59 ▸ k.isLt
theorem row_mul {g : ℕ} (h : g < 60) : Row (32 * g) := ⟨by omega, ⟨g, rfl⟩⟩
theorem reg60_lt (k : Fin loop60.trips) : (reg60 k).toNat < 60 := (reg60_eq k).symm ▸ lt60 k
theorem row60_ok (k : Fin loop60.trips) : Row (row60 k).toNat := (row60_eq k).symm ▸ row_mul (lt60 k)
theorem reg59_lt (k : Fin loop59.trips) : (reg59 k).toNat < 60 := (reg59_eq k).symm ▸ Nat.succ_lt_succ (lt59 k)
theorem rowW_ok (k : Fin loop59.trips) : Row (rowW k) := (rowW_eq k).symm ▸ row_mul (Nat.succ_lt_succ (lt59 k))
theorem rowR_ok (k : Fin loop59.trips) : Row (rowR k) := (rowR_eq k).symm ▸ row_mul (Nat.succ_lt_succ (lt59 k))
theorem rowP_ok (k : Fin loop59.trips) : Row (rowP k) := (rowP_eq k).symm ▸ row_mul (Nat.lt_succ_of_lt (lt59 k))
theorem rowQ_ok (k : Fin loop59.trips) (h : cnd59 k = 1#1) : Row (rowQ k) := (rowQ_eq k h).symm ▸ row_mul (by have := lt59 k; omega)

/-- The loop that starts all copies of `x` and `dy`. -/
def startLoop (b : Bufs sig) : Prog (TpuEff nD τ sig (Elt F) Λ .tc) PUnit :=
  Scf.Loop.for loop60 loop60_ok ⟨⟩ fun k _ => startIn b (reg60 k).toNat (reg60_lt k) (row60 k).toNat (row60_ok k)
/-- The main loop. -/
def mainLoop (b : Bufs sig) (invd : F .f32) (inv : FVec F S1x1 .f32) (coef : FVec F S32x128 .f32) : Prog (TpuEff nD τ sig (Elt F) Λ .tc) (FVec F S32x128 .f32 × M4 F) :=
  Scf.Loop.for loop59 loop59_ok (coef, max0) fun k c =>
    trip b invd inv (reg59 k).toNat (reg59_lt k) (rowW k) (rowW_ok k) (cnd59 k) (rowQ k) (rowQ_ok k) (rowP k) (rowP_ok k) (rowR k) (rowR_ok k) c
/-- The loop that drains the copies out of the codes. -/
def drainLoop (b : Bufs sig) : Prog (TpuEff nD τ sig (Elt F) Λ .tc) PUnit :=
  Scf.Loop.for loop60 loop60_ok ⟨⟩ fun k _ => do
    waitOut b (row60 k).toNat (row60_ok k)
    pure ⟨⟩

/-- The kernel. -/
def kern (b : Bufs sig) (invd : F .f32) : Prog (TpuEff nD τ sig (Elt F) Λ .tc) PUnit := do
  startSmall b
  startLoop b
  waitSmall b
  let s ← setup b
  let coef ← first b invd s.1
  let c ← mainLoop b invd s.1 coef
  last b s.2 c.1 c.2
  drainLoop b
  waitResults b

end Rms

end
-- ==== Proof.KernelPlain.lean ====
/- The printed kernel's body is the program of `Plain`: its statements are those of the tiles and groups, in order. -/
module

public import proofs.«01_k».proof.Kernel
public import proofs.«01_k».proof.Proof.Gen.Kernel
public import proofs.«01_k».proof.Proof.Plain
public import Idealize.ShloMosaic.Lib.Pipeline.Regions

@[expose] public section

namespace Cert.Kernel

open Idealize.ShloMosaic Idealize.SL.Sem

variable {F : FTy → Type} [FloatOps F] [Facts]
variable (b : Rms.Bufs sig)

/-- The first statements of a trip of the main loop: the waits, the copy out, and the first tile's scaled gradient. -/
theorem part1_eq (k : Fin k0_t2_loop.trips) (coef : FVec F S32x128 .f32) :
    (k0_part1 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem 1#32 1#32 k coef : Prog (TpuEff nD τ sig (Elt F) Λ₀ .tc) _) = (do
      Rms.waitIn b (Rms.reg59 k).toNat (Rms.reg59_lt k) (Rms.rowW k) (Rms.rowW_ok k)
      (if h : Rms.cnd59 k = 1#1 then do
        Rms.startOut b (Rms.rowQ k) (Rms.rowQ_ok k h)
        pure ⟨⟩
      else do
        pure ⟨⟩ : Prog (TpuEff nD τ sig (Elt F) Λ₀ .tc) PUnit)
      let r : FVec F S32x128 .f32 ← Rms.ld b.rv ![Rms.rowR k, 0] S32x128.size (Rms.inb_r (Rms.rowR_ok k)) Rms.n32x128
      let dys : FVec F S32x128 .f32 ← Rms.ld b.dys ![0, 0] S32x128.size (Rms.inb_32 0) Rms.n32x128
      let gi : FVec F S1x128 .f32 ← Rms.ld b.gi ![0, 0] S1x128.size (Rms.inb_1 0) Rms.n1x128
      let x32 : FVec F S32x128 .f32 ← Rms.ld b.x32 ![0, 0] S32x128.size (Rms.inb_32 0) Rms.n32x128
      pure ⟨Scalar.muli (Rms.reg59 k) 32#32, Scalar.muli (Scalar.subi (Rms.reg59 k) 1#32) 32#32, r, Rms.wT dys gi x32 coef, Rms.codeT (Rms.wT dys gi x32 coef)⟩) := by
  unfold k0_part1 Rms.waitIn
  dsimp only [Prog.bind_lift, Prog.bind_op, Prog.bind_ret, Prog.pure_eq_ret, bind, Prog.bind, Prog.lift, pure]
  refine congrArg₂ Prog.op ?_ ?_
  · chain_rfl
  funext _
  refine congrArg₂ Prog.op ?_ ?_
  · chain_rfl
  funext _
  by_cases h : Rms.cnd59 k = 1#1
  · rw [dif_pos (show k0_cond1 k = 1#1 from h), dif_pos h]; chain_rfl
  · rw [dif_neg (show ¬ k0_cond1 k = 1#1 from h), dif_neg h]; chain_rfl

/-- A trip of the main loop. -/
theorem trip_eq (invd : F .f32) (inv : FVec F S1x1 .f32) (k : Fin k0_t2_loop.trips) (c : FVec F S32x128 .f32 × Rms.M4 F) (hd : invd = Scalar.ofBits .f32 0x394CCCCD#32) :
    ((do
      let ⟨v4616, v4618, v4620, v4622, v4656, v4657⟩ ← k0_part55 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem 1#32 1#32 k c.1 c.2.1 c.2.2.1 c.2.2.2.1 c.2.2.2.2
      have v4658 : FVec F S32x1 .f32 := broadcastTo S32x1 inv Rms.bOneCol
      have v4659 : FVec F S32x1 .f32 := mulf v4656 v4658
      have v4660 : FVec F S32x128 .f32 := broadcastTo S32x128 v4659 Rms.bCol
      have v4661 : FVec F S32x128 .f32 := mulf v4657 v4660
      pure (v4661, v4616, v4618, v4620, v4622)) : Prog (TpuEff nD τ sig (Elt F) Λ₀ .tc) (FVec F S32x128 .f32 × Rms.M4 F))
    = Rms.trip b invd inv (Rms.reg59 k).toNat (Rms.reg59_lt k) (Rms.rowW k) (Rms.rowW_ok k) (Rms.cnd59 k) (Rms.rowQ k) (Rms.rowQ_ok k) (Rms.rowP k) (Rms.rowP_ok k) (Rms.rowR k) (Rms.rowR_ok k) c := by
  subst hd
  rw [k0_part55, part1_eq]
  unfold Rms.trip
  simp only [Prog.bind_assoc]
  chain_rfl

/-- The main loop as printed is the main loop of `Plain`. -/
theorem loop_eq (inv : FVec F S1x1 .f32) :
    (Rms.mainLoop b (Scalar.ofBits .f32 0x394CCCCD#32) inv : FVec F S32x128 .f32 → Prog (TpuEff nD τ sig (Elt F) Λ₀ .tc) (FVec F S32x128 .f32 × Rms.M4 F)) =
      fun coef => Scf.Loop.for k0_t2_loop Facts₀.k0_t2_ok (coef, Rms.max0) fun k c => (do
        let ⟨v4616, v4618, v4620, v4622, v4656, v4657⟩ ← k0_part55 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem 1#32 1#32 k c.1 c.2.1 c.2.2.1 c.2.2.2.1 c.2.2.2.2
        have v4658 : FVec F S32x1 .f32 := broadcastTo S32x1 inv Rms.bOneCol
        have v4659 : FVec F S32x1 .f32 := mulf v4656 v4658
        have v4660 : FVec F S32x128 .f32 := broadcastTo S32x128 v4659 Rms.bCol
        have v4661 : FVec F S32x128 .f32 := mulf v4657 v4660
        pure (v4661, v4616, v4618, v4620, v4622)) := by
  funext coef
  unfold Rms.mainLoop
  refine congrArg (fun f => Scf.Loop.for k0_t2_loop Facts₀.k0_t2_ok (coef, Rms.max0) f) ?_
  funext k c
  exact (trip_eq b _ inv k c rfl).symm

/-- The statements up to the first values of the scale. -/
theorem part56_eq : (k0_part56 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem : Prog (TpuEff nD τ sig (Elt F) Λ₀ .tc) _) = (do
      Rms.startSmall b
      Rms.startLoop b
      Rms.waitSmall b
      let h : FVec F S1x16 .f32 ← Rms.ld b.histv ![0, 0] S1x16.size Rms.inb_zero Rms.n1x16
      pure ⟨Rms.biasedV h, cmpi .eq (Rms.biasedV h) (broadcast S1x1 0#32), 255#32⟩) := by
  chain_rfl

/-- The statements around the main loop. -/
theorem part91_eq (inv : FVec F S1x1 .f32) (r acc q : FVec F S32x128 .f32) (p : FVec F S8x128 .f32) :
    (k0_part91 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem inv r acc q p : Prog (TpuEff nD τ sig (Elt F) Λ₀ .tc) _) = (do
      let d : FVec F S8x128 .f32 ← Rms.ld b.dg ![0, 4992] S8x128.size (Rms.inb_8 39) Rms.n8x128
      let _ ← Rms.ld b.dg ![0, 4992] S8x128.size (Rms.inb_8 39) Rms.n8x128
      Rms.st b.dg ![0, 4992] S8x128.size (Rms.inb_8 39) Rms.n8x128 (shapeCast S8x128 (addf d p) (Rms.casts _))
      let ga : FVec F S1x128 .f32 ← Rms.ld b.gav ![0, 4992] S1x128.size (Rms.inb_1 39) Rms.n1x128
      let c ← Rms.mainLoop b (Scalar.ofBits .f32 0x394CCCCD#32) inv (Rms.coefT (Scalar.ofBits .f32 0x394CCCCD#32) inv r (Rms.accT 39 acc q ga))
      Rms.startOut b 1856 (by decide)
      let dys : FVec F S32x128 .f32 ← Rms.ld b.dys ![0, 0] S32x128.size (Rms.inb_32 0) Rms.n32x128
      let gi : FVec F S1x128 .f32 ← Rms.ld b.gi ![0, 0] S1x128.size (Rms.inb_1 0) Rms.n1x128
      let x32 : FVec F S32x128 .f32 ← Rms.ld b.x32 ![0, 0] S32x128.size (Rms.inb_32 0) Rms.n32x128
      pure ⟨c.1, c.2.1, c.2.2.1, c.2.2.2.1, c.2.2.2.2, 1888#32, mulf dys (broadcastTo S32x128 gi Rms.bLane), mulf x32 c.1⟩) := by
  rw [loop_eq]
  chain_rfl

/-- The last statements of the body's main part: the small results, their copies out, and the loop that drains. -/
theorem part115_eq (sc : FVec F S1x1 .f32) (m0 m1 m2 m3 : FVec F S8x128 .f32) (w : FVec F S32x128 .f32) :
    (k0_part115 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem sc m0 m1 m2 m3 w : Prog (TpuEff nD τ sig (Elt F) Λ₀ .tc) PUnit) = (do
      let d : FVec F S8x5120 .f32 ← Rms.ld b.dg ![0, 0] S8x5120.size Rms.inb_zero Rms.n8x5120
      let _ ← Rms.ld b.dgo ![0, 0] S1x5120.size Rms.inb_zero Rms.n1x5120
      Rms.st b.dgo ![0, 0] S1x5120.size Rms.inb_zero Rms.n1x5120 (shapeCast S1x5120 (Rms.dgV d) (Rms.casts _))
      let _ ← Rms.ld b.amax ![0, 0] S1x1.size Rms.inb_zero Rms.n1x1
      Rms.st b.amax ![0, 0] S1x1.size Rms.inb_zero Rms.n1x1 (shapeCast S1x1 (Rms.amaxV sc
        (maximumf m0 (extractStridedSlice S8x128 ![0, 0] w Rms.sl0), maximumf m1 (extractStridedSlice S8x128 ![8, 0] w Rms.sl8),
          maximumf m2 (extractStridedSlice S8x128 ![16, 0] w Rms.sl16), maximumf m3 (extractStridedSlice S8x128 ![24, 0] w Rms.sl24))) (Rms.casts _))
      Rms.startOut b 1888 (by decide)
      Prog.lift (.enqueueDma b.dgo (.here b.odg) (.dma (Rms.smSem b 3)) b.hdgo.wordExact b.hodg.wordExact ⟨Or.inl rfl, trivial⟩)
      Prog.lift (.enqueueDma b.scale (.here b.oscale) (.dma (Rms.smSem b 4)) b.hscale.wordExact b.hoscale.wordExact ⟨Or.inl rfl, trivial⟩)
      Prog.lift (.enqueueDma b.amax (.here b.oamax) (.dma (Rms.smSem b 5)) b.hamax.wordExact b.hoamax.wordExact ⟨Or.inl rfl, trivial⟩)
      Rms.drainLoop b
      pure ⟨⟩) := by
  chain_rfl

/-- The body is the program of `Plain`. -/
theorem body_eq : (cc0_rmsnorm_bwd_e5m2 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem : Prog (TpuEff nD τ sig (Elt F) Λ₀ .tc) PUnit) = Rms.kern b (Scalar.ofBits .f32 0x394CCCCD#32) := by
  unfold cc0_rmsnorm_bwd_e5m2 k0_part116
  rw [part56_eq]
  simp only [part91_eq, part115_eq]
  unfold Rms.kern Rms.first Rms.last
  simp only [Prog.bind_assoc]
  chain_rfl

end Cert.Kernel

end
-- ==== Proof.Own.lean ====
/- A part of a buffer held at values: the rules of loads, stores and copies over it. `Own c m S q X` is the ownership of the
   elements of `m` at the indices `S`, at share `q`, holding there what `X` says. -/
module

public import proofs.«01_k».proof.Proof.Plain
public import Idealize.ShloMosaic.Lib.Pipeline.KitQuiescent
public import Idealize.ShloMosaic.Lib.Ring
public import Idealize.ShloMosaic.Lib.Batch
public import Idealize.ShloMosaic.Lib.VecWindow
public import Idealize.ShloMosaic.Lib.Tactic

@[expose] public section

noncomputable section

namespace Rms

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F] {nD : Nat} {τ : Topo} {sig : RefSig} {Λ : Labels}

/-- The proof's user algebra: the pipeline library's beside the transfers' counters. -/
abbrev UU (sig : RefSig) (nD : Nat) (τ : Topo) : Type := UR sig nD τ × Counters
local notation "𝕄" => MT nD τ sig Unit (Elt F) ℕ (UU sig nD τ) ℕ
/-- The transfers' counters in it. -/
abbrev EC : UEmb Counters (MT nD τ sig Unit (Elt F) ℕ (UU sig nD τ) ℕ) := countersEmb

theorem of_eq {P Q : sProp 𝕄} (e : P = Q) : P ⊢ Q := e ▸ .rfl

variable (defs : Defs nD τ sig (Elt F) Λ) (𝒱 : Variants) (c : Dev nD) (bd : Option 𝒱.V)

/-- The elements of `m` at the indices `S`, held at share `q` with the values `X`. -/
def Own {sp : Space} {s : Shape} {e : EltTy} (m : Memref sig .tc sp s e) (S : Finset s.Idx) (q : PosShare TreeShare) (X : s.Idx → Elt F e) : sProp 𝕄 :=
  m.view.loc (c : Thread nD τ) ↦[m.view.setOn S]{q} m.view.rep X

variable {sp sp' : Space} {s : Shape} {e : EltTy}

/-- Only the values at the indices held matter. -/
theorem own_congr (m : Memref sig .tc sp s e) {S : Finset s.Idx} {q : PosShare TreeShare} {X Y : s.Idx → Elt F e} (h : ∀ x ∈ S, X x = Y x) :
    (Own c m S q X : sProp 𝕄) = Own c m S q Y := by
  unfold Own
  refine pointsTo_congr fun i hi => ?_
  obtain ⟨x, hx, rfl⟩ := Finset.mem_map.mp hi
  rw [View.rep_emb, View.rep_emb, h x hx]

/-- A whole buffer at any contents is held at the values it reads. -/
theorem own_of_pts (m : Memref sig .tc sp s e) (hm : m.IsWhole) (q : PosShare TreeShare) (f : Buf (Elt F) (m.view.loc (c : Thread nD τ))) :
    (m.view.loc (c : Thread nD τ) ↦{q} f : sProp 𝕄) = Own c m Finset.univ q (m.view.read (Elt F) f) := by
  unfold Own
  rw [View.setOn_univ, ← pointsTo_rep (Ix := Unit) (Name := ℕ) (U := UU sig nD τ) (Lvl := ℕ) (c : Thread nD τ) m f q, hm.set_eq_univ]

/-- A whole buffer held at values is held at the contents that hold them. -/
theorem own_pts (m : Memref sig .tc sp s e) (hm : m.IsWhole) (q : PosShare TreeShare) (X : s.Idx → Elt F e) :
    (Own c m Finset.univ q X : sProp 𝕄) = (m.view.loc (c : Thread nD τ) ↦{q} m.view.rep X) := by
  rw [own_of_pts c m hm, View.read_rep]

/-- A buffer taken whole. -/
theorem own_whole (b : Ref sig .tc) (q : PosShare TreeShare) (f : b.ty.Contents (Elt F)) :
    (Own c (Memref.whole b) Finset.univ q f : sProp 𝕄) = (((c : Thread nD τ).loc b) ↦{q} f) :=
  (own_of_pts c (Memref.whole b) (Memref.isWhole_whole b) q f).symm

/-- Held at contents `f` on the view's elements at `S`, it is held at what `f` reads there. -/
theorem own_of_read (m : Memref sig .tc sp s e) (S : Finset s.Idx) (q : PosShare TreeShare) (f : Buf (Elt F) (m.view.loc (c : Thread nD τ)))
    {X : s.Idx → Elt F e} (h : ∀ x ∈ S, m.view.read (Elt F) f x = X x) :
    (m.view.loc (c : Thread nD τ) ↦[m.view.setOn S]{q} f : sProp 𝕄) = Own c m S q X := by
  unfold Own
  refine pointsTo_congr fun i hi => ?_
  obtain ⟨x, hx, rfl⟩ := Finset.mem_map.mp hi
  rw [View.rep_emb, ← h x hx, View.read_apply, cast_cast, cast_eq]

/-- Any number of disjoint parts are their union. -/
theorem own_blocks {T : Type} [Fintype T] [DecidableEq T] (m : Memref sig .tc sp s e) (K : T → Finset s.Idx) (hd : ∀ t t', t ≠ t' → Disjoint (K t) (K t'))
    (hc : ∀ x, ∃ t, x ∈ K t) {q : PosShare TreeShare} (X : s.Idx → Elt F e) :
    (Own c m Finset.univ q X : sProp 𝕄) = bigSep Finset.univ fun t => Own c m (K t) q X := by
  classical
  unfold Own
  refine Eq.trans ?_ (pointsTo_biUnion (Ix := Unit) (Name := ℕ) (U := UU sig nD τ) (Lvl := ℕ) (ℓ := m.view.loc (c : Thread nD τ)) (q := q) (f := m.view.rep X)
    Finset.univ (fun t => m.view.setOn (K t)) (fun t _ t' _ h => (Finset.disjoint_map m.view.emb).mpr (hd t t' h)))
  refine congrArg (fun S => (m.view.loc (c : Thread nD τ) ↦[S]{q} m.view.rep X : sProp 𝕄)) ?_
  refine Finset.ext fun i => ?_
  simp only [View.setOn, Finset.mem_map, Finset.mem_univ, true_and, Finset.mem_biUnion]
  constructor
  · rintro ⟨x, rfl⟩; obtain ⟨t, ht⟩ := hc x; exact ⟨t, x, ht, rfl⟩
  · rintro ⟨t, x, -, rfl⟩; exact ⟨x, rfl⟩

variable {α : Type}

/-- A load of a rectangle within the part held returns the values' window. -/
theorem own_load {Q : α → sProp 𝕄} {m : Memref sig .tc .vmem s e} {off size : Fin s.rank → ℕ} {inb : ∀ a, off a + size a ≤ s.size a}
    {hl : m.view.LoadsAt (Rect.unit off size inb).toLoadRect}
    {k : ((⟨s.rank, size⟩ : Shape).Idx → Elt F e) → Prog (TpuEff nD τ sig (Elt F) Λ .tc) α}
    {S : Finset s.Idx} {q : PosShare TreeShare} {X : s.Idx → Elt F e} (hS : (Rect.unit off size inb).set ⊆ S) :
    (Own c m S q X : sProp 𝕄) ⊢ iprop((Own c m S q X -∗ wp frame (wpE defs 𝒱 (c : Thread nD τ) bd) Set.univ (k (VecWindow.window X off size inb)) Q)
      -∗ wp frame (wpE defs 𝒱 (c : Thread nD τ) bd) Set.univ (.op (.load m (Rect.unit off size inb).toLoadRect hl) k) Q) := by
  have h := wp_load (defs := defs) 𝒱 (c : Thread nD τ) bd Set.univ (Γ := []) (Ix := Unit) (Name := ℕ) (U := UU sig nD τ) (Lvl := ℕ) (Q := Q) (m := m)
    (r := (Rect.unit off size inb).toLoadRect) (hl := hl) (k := k) (S := m.view.setOn S) (q := q) (f := m.view.rep X) (Finset.map_subset_map.mpr hS)
  rw [View.readAt_rep_unit m.view X inb rfl inb] at h
  exact h

/-- A store of a rectangle within the part held puts the payload there. -/
theorem own_store {Q : α → sProp 𝕄} {m : Memref sig .tc .vmem s e} {off size : Fin s.rank → ℕ} {inb : ∀ a, off a + size a ≤ s.size a}
    {w : (Rect.unit off size inb).shape.Idx → Elt F e} {hx : (m.access (Rect.unit off size inb)).Stores Finset.univ}
    {hm : Finset.univ = Finset.univ ∨ ∀ a, (Rect.unit off size inb).stride a = 1}
    {k : PUnit → Prog (TpuEff nD τ sig (Elt F) Λ .tc) α}
    {S : Finset s.Idx} {X Y : s.Idx → Elt F e} (hS : (Rect.unit off size inb).set ⊆ S) (hY : ∀ x ∈ S, VecWindow.put X off size w x = Y x) :
    (Own c m S fullShare X : sProp 𝕄) ⊢ iprop((Own c m S fullShare Y -∗ wp frame (wpE defs 𝒱 (c : Thread nD τ) bd) Set.univ (k ⟨⟩) Q)
      -∗ wp frame (wpE defs 𝒱 (c : Thread nD τ) bd) Set.univ (.op (.store m (Rect.unit off size inb) w Finset.univ hx hm) k) Q) := by
  have h := wp_store_writes₀ (defs := defs) 𝒱 (c : Thread nD τ) bd Set.univ (Ix := Unit) (Name := ℕ) (U := UU sig nD τ) (Lvl := ℕ) (Q := Q) (m := m)
    (r := Rect.unit off size inb) (w := w) (hx := hx) (hm := hm) (k := k) (S := m.view.setOn S) (f := m.view.rep X)
    (by show (m.view.slice (Rect.unit off size inb)).set ⊆ _; rw [View.set_slice]; exact Finset.map_subset_map.mpr hS)
  rw [own_of_read c m S fullShare (m.view.writes (Elt F) (m.view.rep X) [⟨Rect.unit off size inb, w⟩]) (X := Y)
    (fun x hx => by rw [View.read_writes_rep_unit m.view X inb w rfl]; exact hY x hx)] at h
  exact h

/-- What a view's write of a part it reads elsewhere leaves: a copy of a rectangle of one array to the same rectangle of another
    of the same shape, landed, leaves the source's values there. -/
theorem own_landed {src : Memref sig .tc sp s e} {dst : Memref sig .tc sp' s e} (r : Rect s) (hr : ∀ a, r.stride a = 1) {X Y : s.Idx → Elt F e} :
    ((dst.slice r hr).view.loc (c : Thread nD τ) ↦[(dst.slice r hr).view.set]{fullShare}
      (dst.slice r hr).view.write (Elt F) (dst.view.rep X) ((ReadAs.same : ReadAs (Elt F) _ e _ e).apply ((src.slice r hr).view.read (Elt F) (src.view.rep Y))) Finset.univ : sProp 𝕄)
      = Own c dst r.set fullShare Y := by
  rw [show (dst.slice r hr).view.set = dst.view.setOn r.set from View.set_slice ..]
  refine own_of_read c dst r.set fullShare _ fun x hx => ?_
  rw [← Rect.map_emb_univ] at hx
  obtain ⟨y, -, rfl⟩ := Finset.mem_map.mp hx
  show (dst.slice r hr).view.read (Elt F) _ y = _
  rw [View.read_write_univ]
  show src.view.read (Elt F) (src.view.rep Y) (r.emb y) = _
  rw [View.read_rep]

/-- A copy of a rectangle of one array to the same rectangle of another of the same shape: in flight it delivers the source's values there. -/
theorem own_dma {Q : α → sProp 𝕄} {src : Memref sig .tc sp s e} {dst : Memref sig .tc sp' s e} {r : Rect s} {hr : ∀ a, r.stride a = 1} {sm : SemLoc sig}
    {hsrc : (src.slice r hr).view.WordExact} {hdst : (dst.slice r hr).view.WordExact} {hsem : DmaTarget.Typed (nD := nD) (p := .tc) sp sm (.here (dst.slice r hr))}
    {k : PUnit → Prog (TpuEff nD τ sig (Elt F) Λ .tc) α} {X Y : s.Idx → Elt F e}
    (N : ℕ) (hN : (dst.slice r hr).view.amount sm = N) (hN0 : 0 < N) :
    iprop(Own c src r.set fullShare Y ∗ Own c dst r.set fullShare X ∗ semVal ((c : Thread nD τ), sm) 0)
      ⊢ iprop((Flight EC (c : Thread nD τ) sm () N iprop(Own c dst r.set fullShare Y ∗ Own c src r.set fullShare Y)
          -∗ wp frame (wpE defs 𝒱 (c : Thread nD τ) bd) Set.univ (k ⟨⟩) Q)
        -∗ wp frame (wpE defs 𝒱 (c : Thread nD τ) bd) Set.univ (.op (.enqueueDmaAs (src.slice r hr) (.here (dst.slice r hr)) .same sm hsrc hdst hsem) k) Q) := by
  have h := wp_dmaLocal (defs := defs) EC 𝒱 (c : Thread nD τ) bd (Q := Q) (src := src.slice r hr) (via := ReadAs.same) (dst := dst.slice r hr) (sm := sm)
    (hsrc := hsrc) (hdst := hdst) (hsem := hsem) (k := k) (q := fullShare) (fs := src.view.rep Y) (fd := dst.view.rep X) () N hN hN0 (Finset.Subset.refl _)
  rw [own_landed c r hr] at h
  rw [show (src.slice r hr).view.set = src.view.setOn r.set from View.set_slice .., show (dst.slice r hr).view.set = dst.view.setOn r.set from View.set_slice ..] at h
  exact h

/-- The same of a batch's next copy. -/
theorem own_dmaBatch {Q : α → sProp 𝕄} {src : Memref sig .tc sp s e} {dst : Memref sig .tc sp' s e} {r : Rect s} {hr : ∀ a, r.stride a = 1} {sm : SemLoc sig}
    {hsrc : (src.slice r hr).view.WordExact} {hdst : (dst.slice r hr).view.WordExact} {hsem : DmaTarget.Typed (nD := nD) (p := .tc) sp sm (.here (dst.slice r hr))}
    {k : PUnit → Prog (TpuEff nD τ sig (Elt F) Λ .tc) α} {X Y : s.Idx → Elt F e} {n : ℕ} {D : Fin n → sProp 𝕄} {j : ℕ}
    (N : ℕ) (hN : (dst.slice r hr).view.amount sm = N) (hj : j < n)
    (hD : D ⟨j, hj⟩ = iprop(Own c dst r.set fullShare Y ∗ Own c src r.set fullShare Y)) :
    iprop(Own c src r.set fullShare Y ∗ Own c dst r.set fullShare X ∗ Batch EC (c : Thread nD τ) sm () N D j 0)
      ⊢ iprop((Batch EC (c : Thread nD τ) sm () N D (j + 1) 0 -∗ wp frame (wpE defs 𝒱 (c : Thread nD τ) bd) Set.univ (k ⟨⟩) Q)
        -∗ wp frame (wpE defs 𝒱 (c : Thread nD τ) bd) Set.univ (.op (.enqueueDmaAs (src.slice r hr) (.here (dst.slice r hr)) .same sm hsrc hdst hsem) k) Q) := by
  have h := wp_dmaBatch (defs := defs) EC 𝒱 (c : Thread nD τ) bd (Q := Q) (src := src.slice r hr) (via := ReadAs.same) (dst := dst.slice r hr) (sm := sm)
    (hsrc := hsrc) (hdst := hdst) (hsem := hsem) (k := k) (q := fullShare) (fs := src.view.rep Y) (fd := dst.view.rep X) (D := D) (u := 0) () N hN
    (Finset.Subset.refl _) hj (Nat.zero_le _) (by
      rw [own_landed c r hr, hD, show (src.slice r hr).view.set = src.view.setOn r.set from View.set_slice ..]; exact .rfl)
  rw [show (src.slice r hr).view.set = src.view.setOn r.set from View.set_slice .., show (dst.slice r hr).view.set = dst.view.setOn r.set from View.set_slice ..] at h
  exact h

/-- A copy of a whole array to another of the same shape. -/
theorem own_dmaWhole {Q : α → sProp 𝕄} {src : Memref sig .tc sp s e} {dst : Memref sig .tc sp' s e} {sm : SemLoc sig}
    {hsrc : src.view.WordExact} {hdst : dst.view.WordExact} {hsem : DmaTarget.Typed (nD := nD) (p := .tc) sp sm (.here dst)}
    {k : PUnit → Prog (TpuEff nD τ sig (Elt F) Λ .tc) α} {X Y : s.Idx → Elt F e}
    (N : ℕ) (hN : dst.view.amount sm = N) (hN0 : 0 < N) :
    iprop(Own c src Finset.univ fullShare Y ∗ Own c dst Finset.univ fullShare X ∗ semVal ((c : Thread nD τ), sm) 0)
      ⊢ iprop((Flight EC (c : Thread nD τ) sm () N iprop(Own c dst Finset.univ fullShare Y ∗ Own c src Finset.univ fullShare Y)
          -∗ wp frame (wpE defs 𝒱 (c : Thread nD τ) bd) Set.univ (k ⟨⟩) Q)
        -∗ wp frame (wpE defs 𝒱 (c : Thread nD τ) bd) Set.univ (.op (.enqueueDmaAs src (.here dst) .same sm hsrc hdst hsem) k) Q) := by
  have h := wp_dmaLocal (defs := defs) EC 𝒱 (c : Thread nD τ) bd (Q := Q) (src := src) (via := ReadAs.same) (dst := dst) (sm := sm)
    (hsrc := hsrc) (hdst := hdst) (hsem := hsem) (k := k) (q := fullShare) (fs := src.view.rep Y) (fd := dst.view.rep X) () N hN hN0 (Finset.Subset.refl _)
  have hl : (dst.view.loc (c : Thread nD τ) ↦[dst.view.setOn Finset.univ]{fullShare}
      (dst.view.write (Elt F) (dst.view.rep X) (src.view.read (Elt F) (src.view.rep Y)) Finset.univ) : sProp 𝕄) = Own c dst Finset.univ fullShare Y :=
    own_of_read c dst Finset.univ fullShare _ fun x _ => by rw [View.read_write_univ, View.read_rep]
  exact (show _ ⊢ _ from h).trans (wand_mono_left (wand_mono_left (Flight_mono EC _ (sep_mono_l (of_eq hl)))))

/-- The next of a range of resources is the first of those left, -/
theorem pend_step {n : ℕ} (D : Fin n → sProp 𝕄) (k : ℕ) (hk : k < n) : bigSep (pending k) D = iprop(D ⟨k, hk⟩ ∗ bigSep (pending (k + 1)) D) :=
  bigSep_pending_step D k hk
/-- and joins those done. -/
theorem done_step {n : ℕ} (D : Fin n → sProp 𝕄) (k : ℕ) (hk : k < n) : bigSep (issued (k + 1)) D = iprop(D ⟨k, hk⟩ ∗ bigSep (issued k) D) := by
  rw [issued_succ hk, bigSep_insert (not_mem_issued hk)]; rfl
theorem done_zero {n : ℕ} (D : Fin n → sProp 𝕄) : bigSep (issued 0) D = (BI.emp : sProp 𝕄) := by rw [issued_zero]; exact bigSep_empty
theorem done_all {n : ℕ} (D : Fin n → sProp 𝕄) : bigSep (issued n) D = bigSep Finset.univ D := by rw [issued_all rfl]
theorem pend_all {n : ℕ} (D : Fin n → sProp 𝕄) : bigSep (pending n) D = (BI.emp : sProp 𝕄) := by
  rw [show pending (n := n) n = ∅ by ext t; simp [pending]]; exact bigSep_empty

instance own_storable (m : Memref sig .tc sp s e) (S : Finset s.Idx) (q : PosShare TreeShare) (X : s.Idx → Elt F e) :
    BI.Storable (upEmb : UEmb _ 𝕄) (Own c m S q X : sProp 𝕄) := by unfold Own; infer_instance

end Rms

end
-- ==== Proof.Vals.lean ====
/- The kernel's values, group by group and tile by tile, as functions of its five arguments. Over any float interpretation. -/
module

public import proofs.«01_k».proof.Proof.Plain
public import Idealize.ShloMosaic.Lib.VecWindow
public import Idealize.ShloMosaic.Lib.ValueIdxCore
public import Idealize.ShloMosaic.Lib.Pipeline.Value

@[expose] public section

noncomputable section

namespace Rms

open Idealize.ShloMosaic Idealize.SL.Sem Idealize.ShloMosaic.ValueIdx

variable {F : FTy → Type} [FloatOps F]

/-! ## Arrays by lane tiles -/

abbrev Sn128 (n : ℕ) : Shape := ⟨2, ![n, 128]⟩
abbrev Sn5120 (n : ℕ) : Shape := ⟨2, ![n, 5120]⟩

/-- Tile `t`, 128 lanes wide, of an array. -/
def tileAt {n : ℕ} {α : Type} (A : (Sn5120 n).Idx → α) (t : ℕ) : (Sn128 n).Idx → α :=
  fun y => A (ix2 (y 0) (Fin.ofNat 5120 (128 * t + (y 1).val)))
/-- Tile `t` of group `g`. -/
def blkAt {α : Type} (A : S1920x5120.Idx → α) (g t : ℕ) : S32x128.Idx → α :=
  fun y => A (ix2 (Fin.ofNat 1920 (32 * g + (y 0).val)) (Fin.ofNat 5120 (128 * t + (y 1).val)))
/-- The array with given tiles. -/
def tiled {n : ℕ} {α : Type} (w : ℕ → (Sn128 n).Idx → α) : (Sn5120 n).Idx → α :=
  fun i => w ((i 1).val / 128) (ix2 (i 0) (Fin.ofNat 128 (i 1).val))
/-- The array with given tiles of each group. -/
def grouped {α : Type} (w : ℕ → ℕ → S32x128.Idx → α) : S1920x5120.Idx → α :=
  fun i => w ((i 0).val / 32) ((i 1).val / 128) (ix2 (Fin.ofNat 32 (i 0).val) (Fin.ofNat 128 (i 1).val))
/-- `A` on the first `t` tiles, `B` on the others. -/
def mix {n : ℕ} {α : Type} (t : ℕ) (A B : (Sn5120 n).Idx → α) : (Sn5120 n).Idx → α := fun i => if (i 1).val < 128 * t then A i else B i

theorem tileAt_tiled {n : ℕ} {α : Type} (w : ℕ → (Sn128 n).Idx → α) {t : ℕ} (ht : t < 40) : tileAt (tiled w) t = w t := by
  funext y
  have h1 : (y 1).val < 128 := idx2_lt1 y
  have hv : ((Fin.ofNat 5120 (128 * t + (y 1).val)) : Fin 5120).val = 128 * t + (y 1).val := Nat.mod_eq_of_lt (by omega)
  show w (((Fin.ofNat 5120 (128 * t + (y 1).val)) : Fin 5120).val / 128) (ix2 (y 0) (Fin.ofNat 128 ((Fin.ofNat 5120 (128 * t + (y 1).val)) : Fin 5120).val)) = w t y
  rw [hv, show (128 * t + (y 1).val) / 128 = t by omega]
  refine congrArg _ ?_
  rw [eq_ix2 y]
  refine congrArg (ix2 (y 0)) (Fin.ext ?_)
  show (128 * t + (y 1).val) % 128 = (y 1).val
  omega

theorem mix_zero {n : ℕ} {α : Type} (A B : (Sn5120 n).Idx → α) : mix 0 A B = B := by funext i; exact if_neg (by omega)
theorem mix_all {n : ℕ} {α : Type} (A B : (Sn5120 n).Idx → α) : mix 40 A B = A := by
  funext i; have := idx2_lt1 i; exact if_pos (by omega)

/-- A tile not yet reached is still the old one. -/
theorem tileAt_mix {n : ℕ} {α : Type} (A B : (Sn5120 n).Idx → α) {t : ℕ} (ht : t < 40) : tileAt (mix t A B) t = tileAt B t := by
  funext y
  have h1 : (y 1).val < 128 := idx2_lt1 y
  have hv : ((Fin.ofNat 5120 (128 * t + (y 1).val)) : Fin 5120).val = 128 * t + (y 1).val := Nat.mod_eq_of_lt (by omega)
  exact if_neg (by show ¬ ((Fin.ofNat 5120 (128 * t + (y 1).val)) : Fin 5120).val < _; omega)

/-- A load's window at lane `128 t` is tile `t`. -/
theorem window_tile {n : ℕ} {α : Type} (A : (Sn5120 n).Idx → α) (t : Fin 40)
    (inb : ∀ a, (![0, 128 * t.val] : Fin 2 → ℕ) a + (Sn128 n).size a ≤ (Sn5120 n).size a) :
    (VecWindow.window A ![0, 128 * t.val] (Sn128 n).size inb : (Sn128 n).Idx → α) = tileAt A t.val := by
  funext y
  have h1 : (y 1).val < 128 := idx2_lt1 y
  refine congrArg A (funext fun a => Fin.ext ?_)
  match a with
  | ⟨0, _⟩ => show 0 + 1 * (y 0).val = (y 0).val; omega
  | ⟨1, _⟩ => show 128 * t.val + 1 * (y 1).val = (128 * t.val + (y 1).val) % 5120; have := t.isLt; omega

theorem window_blk {α : Type} (A : S1920x5120.Idx → α) {R g : ℕ} (hR : R = 32 * g) (h : Row R) (t : Fin 40) :
    (VecWindow.window A ![R, 128 * t.val] S32x128.size (inb_tile h t) : S32x128.Idx → α) = blkAt A g t.val := by
  funext y
  have h1 : (y 1).val < 128 := idx2_lt1 y
  have h0 : (y 0).val < 32 := idx2_lt0 y
  refine congrArg A (funext fun a => Fin.ext ?_)
  match a with
  | ⟨0, _⟩ => show R + 1 * (y 0).val = (32 * g + (y 0).val) % 1920; have := h.1; omega
  | ⟨1, _⟩ => show 128 * t.val + 1 * (y 1).val = (128 * t.val + (y 1).val) % 5120; have := t.isLt; omega

/-- Storing tile `t` of `A` moves the mixture on by one. -/
theorem put_tile {n : ℕ} {α : Type} (A B : (Sn5120 n).Idx → α) (t : Fin 40) (w : (Sn128 n).Idx → α) (hw : w = tileAt A t.val) :
    VecWindow.put (mix t.val A B) ![0, 128 * t.val] (Sn128 n).size w = mix (t.val + 1) A B := by
  subst hw
  funext i
  have h0 := idx2_lt0 i
  unfold VecWindow.put
  split
  · next h =>
    have h1 : 128 * t.val ≤ (i 1).val ∧ (i 1).val < 128 * t.val + 128 := h 1
    rw [show mix (t.val + 1) A B i = A i from if_pos (by omega)]
    refine congrArg A (funext fun a => Fin.ext ?_)
    match a with
    | ⟨0, _⟩ => show (i 0).val - 0 = (i 0).val; omega
    | ⟨1, _⟩ => show (128 * t.val + ((i 1).val - 128 * t.val)) % 5120 = (i 1).val; have := t.isLt; omega
  · next h =>
    have h1 : ¬ (128 * t.val ≤ (i 1).val ∧ (i 1).val < 128 * t.val + 128) := fun hc => h (Fin.forall_fin_two.mpr
      ⟨⟨Nat.zero_le _, by show (i 0).val < 0 + n; omega⟩, hc⟩)
    show (if (i 1).val < 128 * t.val then A i else B i) = if (i 1).val < 128 * (t.val + 1) then A i else B i
    by_cases hl : (i 1).val < 128 * t.val
    · rw [if_pos hl, if_pos (by omega)]
    · rw [if_neg hl, if_neg (by omega)]

/-- The rows of the group at row `R`. -/
def rows (R : ℕ) (h : Row R) : Finset S1920x5120.Idx := (Rect.unit (s := S1920x5120) ![R, 0] S32x5120.size (inb_blk h)).set
theorem mem_rows {R : ℕ} {h : Row R} {i : S1920x5120.Idx} : i ∈ rows R h ↔ R ≤ (i 0).val ∧ (i 0).val < R + 32 := by
  refine Rect.mem_set_unit.trans ⟨fun h => h 0, fun h' => Fin.forall_fin_two.mpr ⟨h', Nat.zero_le _, ?_⟩⟩
  show (i 1).val < 0 + 5120
  have := idx2_lt1 i; omega
theorem tile_sub {R : ℕ} (h : Row R) (t : Fin 40) : (Rect.unit (s := S1920x5120) ![R, 128 * t.val] S32x128.size (inb_tile h t)).set ⊆ rows R h :=
  fun i hi => mem_rows.2 (Rect.mem_set_unit.1 hi 0)

/-- The same of a tile of a group's rows, on those rows. -/
theorem put_blk {α : Type} (A B : S1920x5120.Idx → α) {R g : ℕ} (hR : R = 32 * g) (h : Row R) (t : Fin 40) (w : S32x128.Idx → α) (hw : w = blkAt A g t.val) :
    ∀ i ∈ rows R h, VecWindow.put (mix t.val A B) ![R, 128 * t.val] S32x128.size w i = mix (t.val + 1) A B i := by
  subst hw
  intro i hi
  have h0 := mem_rows.1 hi
  unfold VecWindow.put
  split
  · next h' =>
    have h1 : 128 * t.val ≤ (i 1).val ∧ (i 1).val < 128 * t.val + 128 := h' 1
    rw [show mix (t.val + 1) A B i = A i from if_pos (by omega)]
    refine congrArg A (funext fun a => Fin.ext ?_)
    match a with
    | ⟨0, _⟩ => show (32 * g + ((i 0).val - R)) % 1920 = (i 0).val; have := h.1; omega
    | ⟨1, _⟩ => show (128 * t.val + ((i 1).val - 128 * t.val)) % 5120 = (i 1).val; have := t.isLt; omega
  · next h' =>
    have h1 : ¬ (128 * t.val ≤ (i 1).val ∧ (i 1).val < 128 * t.val + 128) := fun hc => h' (Fin.forall_fin_two.mpr ⟨h0, hc⟩)
    show (if (i 1).val < 128 * t.val then A i else B i) = if (i 1).val < 128 * (t.val + 1) then A i else B i
    by_cases hl : (i 1).val < 128 * t.val
    · rw [if_pos hl, if_pos (by omega)]
    · rw [if_neg hl, if_neg (by omega)]

theorem blkAt_grouped {α : Type} (w : ℕ → ℕ → S32x128.Idx → α) {g t : ℕ} (hg : g < 60) (ht : t < 40) : blkAt (grouped w) g t = w g t := by
  funext y
  have h1 : (y 1).val < 128 := idx2_lt1 y
  have h0 : (y 0).val < 32 := idx2_lt0 y
  have hv : ((Fin.ofNat 5120 (128 * t + (y 1).val)) : Fin 5120).val = 128 * t + (y 1).val := Nat.mod_eq_of_lt (by omega)
  have hu : ((Fin.ofNat 1920 (32 * g + (y 0).val)) : Fin 1920).val = 32 * g + (y 0).val := Nat.mod_eq_of_lt (by omega)
  show w (((Fin.ofNat 1920 (32 * g + (y 0).val)) : Fin 1920).val / 32) (((Fin.ofNat 5120 (128 * t + (y 1).val)) : Fin 5120).val / 128)
    (ix2 (Fin.ofNat 32 ((Fin.ofNat 1920 (32 * g + (y 0).val)) : Fin 1920).val) (Fin.ofNat 128 ((Fin.ofNat 5120 (128 * t + (y 1).val)) : Fin 5120).val)) = w g t y
  rw [hv, hu, show (128 * t + (y 1).val) / 128 = t by omega, show (32 * g + (y 0).val) / 32 = g by omega]
  refine congrArg _ ?_
  rw [eq_ix2 y]
  refine congrArg₂ ix2 (Fin.ext ?_) (Fin.ext ?_)
  · show (32 * g + (y 0).val) % 32 = (y 0).val; omega
  · show (128 * t + (y 1).val) % 128 = (y 1).val; omega

/-! ## The values -/

/-- The kernel's arguments: `x`, `dy`, `gamma`, `rstd` and the history; and its constant. -/
structure Args (F : FTy → Type) where
  X : FVec F S1920x5120 .bf16
  DY : FVec F S1920x5120 .bf16
  GA : FVec F S1x5120 .f32
  RS : FVec F S3x640 .f32
  H : FVec F S1x16 .f32
  invd : F .f32

namespace Args
variable (A : Args F)

/-- `rstd` of each row, down the lanes. -/
def RV : FVec F S1920x128 .f32 := fun i => A.RS (ix2 (Fin.ofNat 3 ((i 0).val / 640)) (Fin.ofNat 640 (i 0).val))
/-- `rstd` of a group's rows. -/
def r (g : ℕ) : FVec F S32x128 .f32 := fun y => A.RV (ix2 (Fin.ofNat 1920 (32 * g + (y 0).val)) (y 1))
def x32 (g t : ℕ) : FVec F S32x128 .f32 := x32T (blkAt A.X g t)
def dys (g t : ℕ) : FVec F S32x128 .f32 := dysT (blkAt A.DY g t) (A.r g)
/-- `dy·rstd·x`. -/
def q (g t : ℕ) : FVec F S32x128 .f32 := mulf (A.dys g t) (A.x32 g t)
def GI : FVec F S1x5120 .f32 := giV (invV A.H) A.GA
/-- The eight slabs of `dgamma` after `g` groups. -/
def DG : ℕ → FVec F S8x5120 .f32
  | 0 => broadcast S8x5120 (Scalar.ofBits .f32 0x00000000#32)
  | g + 1 => tiled fun t => addf (tileAt (DG g) t) (partT (A.q g t))
/-- A group's running sum after `t` tiles. -/
def acc (g : ℕ) : ℕ → FVec F S32x128 .f32
  | 0 => A.r g
  | t + 1 => accT t (acc g t) (A.q g t) (tileAt A.GA t)
def coef (g : ℕ) : FVec F S32x128 .f32 := coefT A.invd (invV A.H) (A.r g) (A.acc g 40)
/-- The scaled gradient. -/
def w (g t : ℕ) : FVec F S32x128 .f32 := wT (A.dys g t) (tileAt A.GI t) (A.x32 g t) (A.coef g)
/-- The codes. -/
def codes : FVec F S1920x5120 .fp8e5m2 := grouped fun g t => codeT (A.w g t)
/-- The running maxima from `m` after `t` tiles of a group, -/
def mt (g : ℕ) (m : M4 F) : ℕ → M4 F
  | 0 => m
  | t + 1 => maxT (A.w g t) (mt g m t)
/-- and after `g` groups. -/
def mg : ℕ → M4 F
  | 0 => max0
  | g + 1 => A.mt g (mg g) 40
/-- The results. -/
def dgamma : FVec F S1x5120 .f32 := dgV (A.DG 60)
def scale : FVec F S1x1 .f32 := scaleV A.H
def amax : FVec F S1x1 .f32 := amaxV A.scale (A.mg 60)

end Args

end Rms

end
-- ==== Proof.Tiles.lean ====
/- The rules of the lane tiles: what one tile's statements leave in the buffers, and all forty by the loop rule. -/
module

public import proofs.«01_k».proof.Proof.Own
public import proofs.«01_k».proof.Proof.Vals

@[expose] public section

noncomputable section

namespace Rms

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F] {nD : Nat} {τ : Topo} {sig : RefSig} {Λ : Labels}
local notation "𝕄" => MT nD τ sig Unit (Elt F) ℕ (UU sig nD τ) ℕ

variable (defs : Defs nD τ sig (Elt F) Λ) (𝒱 : Variants) (c : Dev nD) (bd : Option 𝒱.V)
local notation "WP" => wp frame (wpE defs 𝒱 (c : Thread nD τ) bd) Set.univ
local notation "own" => Own (F := F) (nD := nD) (τ := τ) c

variable {s : Shape} {e : EltTy} {α : Type}

/-- A load alone. -/
theorem wp_ld {m : Memref sig .tc .vmem s e} {off size : Fin s.rank → ℕ} {Q : ((⟨s.rank, size⟩ : Shape).Idx → Elt F e) → sProp 𝕄} {inb : ∀ a, off a + size a ≤ s.size a} {hn}
    {S : Finset s.Idx} {X : s.Idx → Elt F e} (hS : (Rect.unit off size inb).set ⊆ S) {v} (hv : VecWindow.window X off size inb = v) :
    (own m S fullShare X : sProp 𝕄) ⊢ iprop((own m S fullShare X -∗ Q v) -∗ WP (ld m off size inb hn) Q) := by
  subst hv
  iintro H HQ
  iapply (own_load defs 𝒱 c bd hS) $$ H
  iintro H
  rw [wp_ret]; imodintro
  iapply HQ $$ H

/-- A store alone. -/
theorem wp_st {Q : PUnit → sProp 𝕄} {m : Memref sig .tc .vmem s .f32} {off size : Fin s.rank → ℕ} {inb : ∀ a, off a + size a ≤ s.size a} {hn}
    {w : (⟨s.rank, size⟩ : Shape).Idx → Elt F .f32}
    {S : Finset s.Idx} {X Y : s.Idx → Elt F .f32} (hS : (Rect.unit off size inb).set ⊆ S) (hY : ∀ x ∈ S, VecWindow.put X off size w x = Y x) :
    (own m S fullShare X : sProp 𝕄) ⊢ iprop((own m S fullShare Y -∗ Q ⟨⟩) -∗ WP (st m off size inb hn w) Q) := by
  iintro H HQ
  iapply (own_store defs 𝒱 c bd hS hY) $$ H
  iintro H
  rw [wp_ret]; imodintro
  iapply HQ $$ H

/-- A program's end. -/
theorem wp_pure_intro {Q : α → sProp 𝕄} {v : α} : Q v ⊢ WP (pure v : Prog (TpuEff nD τ sig (Elt F) Λ .tc) α) Q := by
  rw [show (pure v : Prog (TpuEff nD τ sig (Elt F) Λ .tc) α) = .ret v from rfl, wp_ret]
  iintro H; imodintro; iexact H

variable (b : Bufs sig) (A : Args F)

/-- What a tile of statistics works on: the group's rows of `x` and `dy`, the two widened tiles' buffers and the sums, `t` tiles done
    of group `g`, whose buffers held `X32` and `DYS` before. -/
def StatS (g R : ℕ) (h : Row R) (X32 DYS : FVec F S32x5120 .f32) (t : ℕ) : sProp 𝕄 :=
  iprop(own b.xv (rows R h) fullShare A.X ∗ own b.dyv (rows R h) fullShare A.DY
    ∗ own b.x32 Finset.univ fullShare (mix t (tiled (A.x32 g)) X32) ∗ own b.dys Finset.univ fullShare (mix t (tiled (A.dys g)) DYS)
    ∗ own b.dg Finset.univ fullShare (mix t (A.DG (g + 1)) (A.DG g)) ∗ own b.gav Finset.univ fullShare A.GA)

theorem wp_statsTile {Q : FVec F S32x128 .f32 → sProp 𝕄} (g R : ℕ) (h : Row R) (hR : R = 32 * g) (X32 DYS : FVec F S32x5120 .f32) (t : Fin 40) :
    (StatS c b A g R h X32 DYS t.val : sProp 𝕄)
      ⊢ iprop((StatS c b A g R h X32 DYS (t.val + 1) -∗ Q (A.acc g (t.val + 1))) -∗ WP (statsTile b R h (A.r g) t (A.acc g t.val)) Q) := by
  unfold StatS statsTile
  rw [show A.acc g (t.val + 1) = accT t.val (A.acc g t.val) (mulf (dysT (blkAt A.DY g t.val) (A.r g)) (x32T (blkAt A.X g t.val))) (tileAt A.GA t.val) from rfl]
  iintro ⟨Hx, Hdy, H32, Hds, Hdg, Hga⟩ HQ
  rw [wp_bind]
  iapply (wp_ld defs 𝒱 c bd (tile_sub h t) (window_blk A.X hR h t)) $$ Hx
  iintro Hx
  rw [wp_bind]
  iapply (wp_ld defs 𝒱 c bd (tile_sub h t) (window_blk A.DY hR h t)) $$ Hdy
  iintro Hdy
  rw [wp_bind]
  iapply (wp_ld defs 𝒱 c bd (Finset.subset_univ _) rfl) $$ H32
  iintro H32
  rw [wp_bind]
  iapply (wp_st defs 𝒱 c bd (Y := mix (t.val + 1) (tiled (A.x32 g)) X32) (Finset.subset_univ _) (fun x _ => by
    rw [shapeCast_self]
    exact congrFun (put_tile (n := 32) _ _ t _ (by rw [tileAt_tiled _ t.isLt]; rfl)) x)) $$ H32
  iintro H32
  rw [wp_bind]
  iapply (wp_ld defs 𝒱 c bd (Finset.subset_univ _) rfl) $$ Hds
  iintro Hds
  rw [wp_bind]
  iapply (wp_st defs 𝒱 c bd (Y := mix (t.val + 1) (tiled (A.dys g)) DYS) (Finset.subset_univ _) (fun x _ => by
    rw [shapeCast_self]
    exact congrFun (put_tile (n := 32) _ _ t _ (by rw [tileAt_tiled _ t.isLt]; rfl)) x)) $$ Hds
  iintro Hds
  rw [wp_bind]
  iapply (wp_ld defs 𝒱 c bd (Finset.subset_univ _) ((window_tile (n := 8) _ t _).trans (tileAt_mix _ _ t.isLt))) $$ Hdg
  iintro Hdg
  rw [wp_bind]
  iapply (wp_ld defs 𝒱 c bd (Finset.subset_univ _) rfl) $$ Hdg
  iintro Hdg
  rw [wp_bind]
  iapply (wp_st defs 𝒱 c bd (Y := mix (t.val + 1) (A.DG (g + 1)) (A.DG g)) (Finset.subset_univ _) (fun x _ => by
    rw [shapeCast_self]
    exact congrFun (put_tile (n := 8) _ _ t _ (by rw [show A.DG (g + 1) = tiled _ from rfl, tileAt_tiled _ t.isLt]; rfl)) x)) $$ Hdg
  iintro Hdg
  rw [wp_bind]
  iapply (wp_ld defs 𝒱 c bd (Finset.subset_univ _) (window_tile (n := 1) _ t _)) $$ Hga
  iintro Hga
  iapply (wp_pure_intro defs 𝒱 c bd)
  iapply HQ
  isplitl [Hx]; · iexact Hx
  isplitl [Hdy]; · iexact Hdy
  isplitl [H32]; · iexact H32
  isplitl [Hds]; · iexact Hds
  isplitl [Hdg]; · iexact Hdg
  iexact Hga

/-- What a tile of codes works on: the group's buffers and rows of codes, `t` tiles of them written. -/
def GradS (R : ℕ) (h : Row R) (X32 DYS : FVec F S32x5120 .f32) (Z : FVec F S1920x5120 .fp8e5m2) (t : ℕ) : sProp 𝕄 :=
  iprop(own b.dys Finset.univ fullShare DYS ∗ own b.gi Finset.univ fullShare A.GI ∗ own b.x32 Finset.univ fullShare X32
    ∗ own b.codes (rows R h) fullShare (mix t A.codes Z))

theorem wp_gradTile {Q : M4 F → sProp 𝕄} (g R : ℕ) (hg : g < 60) (h : Row R) (hR : R = 32 * g) (X32 DYS : FVec F S32x5120 .f32) (Z : FVec F S1920x5120 .fp8e5m2)
    (t : Fin 40) (hx : tileAt X32 t.val = A.x32 g t.val) (hd : tileAt DYS t.val = A.dys g t.val) (m : M4 F) :
    (GradS c b A R h X32 DYS Z t.val : sProp 𝕄)
      ⊢ iprop((GradS c b A R h X32 DYS Z (t.val + 1) -∗ Q (A.mt g m (t.val + 1))) -∗ WP (gradTile b R h (A.coef g) t (A.mt g m t.val)) Q) := by
  unfold GradS gradTile
  rw [show A.mt g m (t.val + 1) = maxT (wT (A.dys g t.val) (tileAt A.GI t.val) (A.x32 g t.val) (A.coef g)) (A.mt g m t.val) from rfl]
  iintro ⟨Hds, Hgi, H32, Hc⟩ HQ
  rw [wp_bind]
  iapply (wp_ld defs 𝒱 c bd (Finset.subset_univ _) ((window_tile (n := 32) _ t _).trans hd)) $$ Hds
  iintro Hds
  rw [wp_bind]
  iapply (wp_ld defs 𝒱 c bd (Finset.subset_univ _) (window_tile (n := 1) _ t _)) $$ Hgi
  iintro Hgi
  rw [wp_bind]
  iapply (wp_ld defs 𝒱 c bd (Finset.subset_univ _) ((window_tile (n := 32) _ t _).trans hx)) $$ H32
  iintro H32
  rw [wp_bind]
  iapply (wp_ld defs 𝒱 c bd (tile_sub h t) rfl) $$ Hc
  iintro Hc
  rw [wp_bind]
  iapply (own_store defs 𝒱 c bd (Y := mix (n := 1920) (t.val + 1) A.codes Z) (tile_sub h t) (by
    rw [shapeCast_self]
    exact put_blk _ _ hR h t _ (show blkAt A.codes g t.val = _ from blkAt_grouped (fun g t => codeT (A.w g t)) hg t.isLt).symm)) $$ Hc
  iintro Hc
  rw [wp_ret]; imodintro
  iapply (wp_pure_intro defs 𝒱 c bd)
  iapply HQ
  isplitl [Hds]; · iexact Hds
  isplitl [Hgi]; · iexact Hgi
  isplitl [H32]; · iexact H32
  iexact Hc

theorem tiles_eq : tiles = (List.finRange 40).drop 0 := by decide

/-- The statistics of a whole group. -/
theorem wp_statsAll {Q : FVec F S32x128 .f32 → sProp 𝕄} (g R : ℕ) (h : Row R) (hR : R = 32 * g) (X32 DYS : FVec F S32x5120 .f32) :
    (StatS c b A g R h X32 DYS 0 : sProp 𝕄)
      ⊢ iprop((StatS c b A g R h X32 DYS 40 -∗ Q (A.acc g 40)) -∗ WP (statsAll b R h (A.r g)) Q) := by
  unfold statsAll
  rw [tiles_eq]
  iintro H HQ
  iapply (Scf.wp_forFrom frame (wpE defs 𝒱 (c : Thread nD τ) bd) Set.univ (n := 40) _
    (fun k acc => iprop(⌜acc = A.acc g k⌝ ∗ StatS c b A g R h X32 DYS k)) (fun t acc => by
      iintro ⟨%ha, H⟩
      subst ha
      iapply (wp_statsTile defs 𝒱 c bd b A g R h hR X32 DYS t) $$ H
      iintro H
      isplitr; · ipureintro; rfl
      iexact H) 0 (Nat.zero_le _) (A.r g))
  isplitl [H]
  · isplitr; · ipureintro; rfl
    iexact H
  · iintro %acc' ⟨%ha, H⟩
    subst ha
    iapply HQ $$ H

/-- The codes of a whole group. -/
theorem wp_gradAll {Q : M4 F → sProp 𝕄} (g R : ℕ) (hg : g < 60) (h : Row R) (hR : R = 32 * g) (Z : FVec F S1920x5120 .fp8e5m2) (m : M4 F) :
    (GradS c b A R h (tiled (A.x32 g)) (tiled (A.dys g)) Z 0 : sProp 𝕄)
      ⊢ iprop((GradS c b A R h (tiled (A.x32 g)) (tiled (A.dys g)) Z 40 -∗ Q (A.mt g m 40)) -∗ WP (gradAll b R h (A.coef g) m) Q) := by
  unfold gradAll
  rw [tiles_eq]
  iintro H HQ
  iapply (Scf.wp_forFrom frame (wpE defs 𝒱 (c : Thread nD τ) bd) Set.univ (n := 40) _
    (fun k acc => iprop(⌜acc = A.mt g m k⌝ ∗ GradS c b A R h (tiled (A.x32 g)) (tiled (A.dys g)) Z k)) (fun t acc => by
      iintro ⟨%ha, H⟩
      subst ha
      iapply (wp_gradTile defs 𝒱 c bd b A g R hg h hR _ _ Z t (tileAt_tiled _ t.isLt) (tileAt_tiled _ t.isLt) m) $$ H
      iintro H
      isplitr; · ipureintro; rfl
      iexact H) 0 (Nat.zero_le _) m)
  isplitl [H]
  · isplitr; · ipureintro; rfl
    iexact H
  · iintro %acc' ⟨%ha, H⟩
    subst ha
    iapply HQ $$ H

/-- What both work on in one tile of a trip. -/
def BothS (P : ℕ) (hP : Row P) (R : ℕ) (hR : Row R) (g : ℕ) (Z : FVec F S1920x5120 .fp8e5m2) (t : ℕ) : sProp 𝕄 :=
  iprop(StatS c b A (g + 1) R hR (tiled (A.x32 g)) (tiled (A.dys g)) t ∗ own b.gi Finset.univ fullShare A.GI
    ∗ own b.codes (rows P hP) fullShare (mix t A.codes Z))

/-- A group's codes and the next one's statistics. -/
theorem wp_bothAll {Q : M4 F × FVec F S32x128 .f32 → sProp 𝕄} (g : ℕ) (hg : g < 60) (P : ℕ) (hP : Row P) (hPg : P = 32 * g) (R : ℕ) (hR : Row R) (hRg : R = 32 * (g + 1))
    (Z : FVec F S1920x5120 .fp8e5m2) (m : M4 F) :
    (BothS c b A P hP R hR g Z 0 : sProp 𝕄)
      ⊢ iprop((BothS c b A P hP R hR g Z 40 -∗ Q (A.mt g m 40, A.acc (g + 1) 40))
        -∗ WP (bothAll b P hP R hR (A.coef g) (A.r (g + 1)) m) Q) := by
  unfold bothAll
  rw [tiles_eq]
  iintro H HQ
  iapply (Scf.wp_forFrom frame (wpE defs 𝒱 (c : Thread nD τ) bd) Set.univ (n := 40) _
    (fun k acc => iprop(⌜acc = (A.mt g m k, A.acc (g + 1) k)⌝ ∗ BothS c b A P hP R hR g Z k)) (fun t acc => by
      iintro ⟨%ha, H⟩
      subst ha
      unfold BothS
      icases H with ⟨HS, Hgi, Hc⟩
      ihave HS := (of_eq (by unfold StatS; rfl)) $$ HS
      icases HS with ⟨Hx, Hdy, H32, Hds, Hdg, Hga⟩
      rw [wp_bind]
      ihave HG : (GradS c b A P hP (mix t.val (tiled (A.x32 (g + 1))) (tiled (A.x32 g))) (mix t.val (tiled (A.dys (g + 1))) (tiled (A.dys g))) Z t.val : sProp 𝕄) $$ [Hds Hgi H32 Hc]
      · unfold GradS
        isplitl [Hds]; · iexact Hds
        isplitl [Hgi]; · iexact Hgi
        isplitl [H32]; · iexact H32
        iexact Hc
      iapply (wp_gradTile defs 𝒱 c bd b A g P hg hP hPg _ _ Z t ((tileAt_mix _ _ t.isLt).trans (tileAt_tiled _ t.isLt))
        ((tileAt_mix _ _ t.isLt).trans (tileAt_tiled _ t.isLt)) m) $$ HG
      iintro HG
      ihave HG := (of_eq (by unfold GradS; rfl)) $$ HG
      icases HG with ⟨Hds, Hgi, H32, Hc⟩
      rw [wp_bind]
      ihave HS : (StatS c b A (g + 1) R hR (tiled (A.x32 g)) (tiled (A.dys g)) t.val : sProp 𝕄) $$ [Hx Hdy H32 Hds Hdg Hga]
      · unfold StatS
        isplitl [Hx]; · iexact Hx
        isplitl [Hdy]; · iexact Hdy
        isplitl [H32]; · iexact H32
        isplitl [Hds]; · iexact Hds
        isplitl [Hdg]; · iexact Hdg
        iexact Hga
      iapply (wp_statsTile defs 𝒱 c bd b A (g + 1) R hR hRg _ _ t) $$ HS
      iintro HS
      iapply (wp_pure_intro defs 𝒱 c bd)
      isplitr; · ipureintro; rfl
      isplitl [HS]; · iexact HS
      isplitl [Hgi]; · iexact Hgi
      iexact Hc) 0 (Nat.zero_le _) (m, A.r (g + 1)))
  isplitl [H]
  · isplitr; · ipureintro; rfl
    iexact H
  · iintro %acc' ⟨%ha, H⟩
    subst ha
    iapply HQ $$ H

end Rms

end
-- ==== Proof.Copies.lean ====
/- The rules of the kernel's copies: of a whole small array and of a group's rows, started and waited for; and of the loops
   that start the copies in and drain the copies out. -/
module

public import proofs.«01_k».proof.Proof.Tiles

@[expose] public section

noncomputable section

namespace Rms

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F] {nD : Nat} {τ : Topo} {sig : RefSig} {Λ : Labels}
local notation "𝕄" => MT nD τ sig Unit (Elt F) ℕ (UU sig nD τ) ℕ

variable (defs : Defs nD τ sig (Elt F) Λ) (𝒱 : Variants) (c : Dev nD) (bd : Option 𝒱.V)
local notation "WP" => wp frame (wpE defs 𝒱 (c : Thread nD τ) bd) Set.univ
local notation "own" => Own (F := F) (nD := nD) (τ := τ) c

variable {s : Shape} {e : EltTy} {sp sp' : Space}

/-- A semaphore at rest. -/
def Sem0 (sm : DmaSem sig) : sProp 𝕄 := semVal ((c : Thread nD τ), .dma sm) 0
local notation "sem0" => Sem0 (F := F) (nD := nD) (τ := τ) c
/-- The waits made so far. -/
def Owes : sProp 𝕄 := iprop(∃ W, owes (c : Thread nD τ) 0 W)
local notation "owesAny" => (Owes (F := F) (nD := nD) (τ := τ) (sig := sig) c)

/-- A whole array's copy on its way. -/
def FlW (src : Memref sig .tc sp s e) (dst : Memref sig .tc sp' s e) (sm : DmaSem sig) (Y : s.Idx → Elt F e) : sProp 𝕄 :=
  Flight EC (c : Thread nD τ) (.dma sm) () dst.view.dmaCredit iprop(own dst Finset.univ fullShare Y ∗ own src Finset.univ fullShare Y)
/-- A group's rows' copy on its way. -/
def FlB (src : Memref sig .tc sp S1920x5120 e) (dst : Memref sig .tc sp' S1920x5120 e) (sm : DmaSem sig) (R : ℕ) (h : Row R) (Y : S1920x5120.Idx → Elt F e) : sProp 𝕄 :=
  Flight EC (c : Thread nD τ) (.dma sm) () (blk dst R h).view.dmaCredit iprop(own dst (rows R h) fullShare Y ∗ own src (rows R h) fullShare Y)

theorem wp_copyW {Q : PUnit → sProp 𝕄} {src : Memref sig .tc sp s e} {dst : Memref sig .tc sp' s e} {sm : DmaSem sig} {h1 h2 h3} (hn : 0 < s.numel) {X Y : s.Idx → Elt F e} :
    iprop(own src Finset.univ fullShare Y ∗ own dst Finset.univ fullShare X ∗ sem0 sm)
      ⊢ iprop((FlW c src dst sm Y -∗ Q ⟨⟩) -∗ WP (Prog.lift (.enqueueDma src (.here dst) (.dma sm) h1 h2 h3)) Q) := by
  unfold Sem0 FlW
  iintro H HQ
  iapply (own_dmaWhole defs 𝒱 c bd dst.view.dmaCredit rfl (View.dmaCredit_pos _ hn)) $$ H
  iintro H
  rw [wp_ret]; imodintro
  iapply HQ $$ H

theorem wp_waitW {Q : PUnit → sProp 𝕄} {src : Memref sig .tc sp s e} {dst : Memref sig .tc sp' s e} {sm : DmaSem sig} {h1 h2} {Y : s.Idx → Elt F e} :
    iprop(FlW c src dst sm Y ∗ owesAny)
      ⊢ iprop((iprop(own dst Finset.univ fullShare Y ∗ own src Finset.univ fullShare Y ∗ sem0 sm ∗ owesAny) -∗ Q ⟨⟩)
        -∗ WP (Prog.lift (.waitDma2 sm src dst h1 h2)) Q) := by
  unfold Sem0 FlW Owes
  iintro ⟨H, %W, HO⟩ HQ
  iapply (wp_waitLocal EC 𝒱 (c : Thread nD τ) bd () rfl) $$ [H HO]
  · isplitl [H]; · iexact H
    iexact HO
  iintro ⟨⟨Hd, Hs⟩, Hv, HO⟩
  rw [wp_ret]; imodintro
  iapply HQ
  isplitl [Hd]; · iexact Hd
  isplitl [Hs]; · iexact Hs
  isplitl [Hv]; · iexact Hv
  iexists _
  iexact HO

theorem wp_copyB {Q : PUnit → sProp 𝕄} {src : Memref sig .tc sp S1920x5120 e} {dst : Memref sig .tc sp' S1920x5120 e} {sm : DmaSem sig} {R : ℕ} {h : Row R} {h1 h2 h3}
    {X Y : S1920x5120.Idx → Elt F e} :
    iprop(own src (rows R h) fullShare Y ∗ own dst (rows R h) fullShare X ∗ sem0 sm)
      ⊢ iprop((FlB c src dst sm R h Y -∗ Q ⟨⟩) -∗ WP (Prog.lift (.enqueueDma (blk src R h) (.here (blk dst R h)) (.dma sm) h1 h2 h3)) Q) := by
  unfold Sem0 FlB rows
  iintro H HQ
  iapply (own_dma defs 𝒱 c bd (blk dst R h).view.dmaCredit rfl (View.dmaCredit_pos _ (by decide))) $$ H
  iintro H
  rw [wp_ret]; imodintro
  iapply HQ $$ H

theorem wp_waitB {Q : PUnit → sProp 𝕄} {src : Memref sig .tc sp S1920x5120 e} {dst : Memref sig .tc sp' S1920x5120 e} {sm : DmaSem sig} {R : ℕ} {h : Row R} {h1 h2}
    {Y : S1920x5120.Idx → Elt F e} :
    iprop(FlB c src dst sm R h Y ∗ owesAny)
      ⊢ iprop((iprop(own dst (rows R h) fullShare Y ∗ own src (rows R h) fullShare Y ∗ sem0 sm ∗ owesAny) -∗ Q ⟨⟩)
        -∗ WP (Prog.lift (.waitDma2 sm (blk src R h) (blk dst R h) h1 h2)) Q) := by
  unfold Sem0 FlB Owes
  iintro ⟨H, %W, HO⟩ HQ
  iapply (wp_waitLocal EC 𝒱 (c : Thread nD τ) bd () rfl) $$ [H HO]
  · isplitl [H]; · iexact H
    iexact HO
  iintro ⟨⟨Hd, Hs⟩, Hv, HO⟩
  rw [wp_ret]; imodintro
  iapply HQ
  isplitl [Hd]; · iexact Hd
  isplitl [Hs]; · iexact Hs
  isplitl [Hv]; · iexact Hv
  iexists _
  iexact HO

variable (b : Bufs sig) (A : Args F)

/-- Group `t`'s rows. -/
abbrev rowsT (t : Fin 60) : Finset S1920x5120.Idx := rows (32 * t.val) (row_mul t.isLt)

theorem rowsT_disjoint (t t' : Fin 60) (h : t ≠ t') : Disjoint (rowsT t) (rowsT t') :=
  Finset.disjoint_left.2 fun i hi hi' => by
    have h1 := mem_rows.1 hi; have h2 := mem_rows.1 hi'
    exact h (Fin.ext (by omega))
theorem rowsT_cover (i : S1920x5120.Idx) : ∃ t, i ∈ rowsT t := by
  have h0 := idx2_lt0 i
  exact ⟨⟨(i 0).val / 32, by omega⟩, mem_rows.2 ⟨by show 32 * ((i 0).val / 32) ≤ _; omega, by show _ < 32 * ((i 0).val / 32) + 32; omega⟩⟩

/-- An array is its groups of rows. -/
theorem own_rows {sp : Space} {e : EltTy} (m : Memref sig .tc sp S1920x5120 e) (X : S1920x5120.Idx → Elt F e) :
    (own m Finset.univ fullShare X : sProp 𝕄) = bigSep Finset.univ fun t => own m (rowsT t) fullShare X :=
  own_blocks c m rowsT rowsT_disjoint rowsT_cover X

/-! ## The copies of `x` and `dy` -/

/-- Group `t`'s rows before their copies start, -/
def InA (X0 DY0 : FVec F S1920x5120 .bf16) (t : Fin 60) : sProp 𝕄 :=
  iprop((own b.x (rowsT t) fullShare A.X ∗ own b.xv (rowsT t) fullShare X0 ∗ sem0 (inSem b 0 t.val t.isLt))
    ∗ (own b.dy (rowsT t) fullShare A.DY ∗ own b.dyv (rowsT t) fullShare DY0 ∗ sem0 (inSem b 1 t.val t.isLt)))
/-- on their way, -/
def InB (t : Fin 60) : sProp 𝕄 :=
  iprop(FlB c b.x b.xv (inSem b 0 t.val t.isLt) (32 * t.val) (row_mul t.isLt) A.X ∗ FlB c b.dy b.dyv (inSem b 1 t.val t.isLt) (32 * t.val) (row_mul t.isLt) A.DY)
/-- what is left beside the copies once they have landed, -/
def InR (t : Fin 60) : sProp 𝕄 :=
  iprop((own b.x (rowsT t) fullShare A.X ∗ sem0 (inSem b 0 t.val t.isLt)) ∗ (own b.dy (rowsT t) fullShare A.DY ∗ sem0 (inSem b 1 t.val t.isLt)))
/-- and all of it. -/
def InC (t : Fin 60) : sProp 𝕄 :=
  iprop(own b.xv (rowsT t) fullShare A.X ∗ own b.dyv (rowsT t) fullShare A.DY ∗ InR c b A t)

theorem wp_startIn {Q : PUnit → sProp 𝕄} (X0 DY0 : FVec F S1920x5120 .bf16) (t : Fin 60) {g : ℕ} (hg : g < 60) {R : ℕ} (h : Row R) (eg : g = t.val) (eR : R = 32 * t.val) :
    (InA c b A X0 DY0 t : sProp 𝕄) ⊢ iprop((InB c b A t -∗ Q ⟨⟩) -∗ WP (startIn b g hg R h) Q) := by
  subst eg; subst eR
  unfold InA InB startIn
  iintro ⟨Hx, Hdy⟩ HQ
  rw [wp_bind]
  iapply (wp_copyB defs 𝒱 c bd) $$ Hx
  iintro Hx
  rw [wp_bind]
  iapply (wp_copyB defs 𝒱 c bd) $$ Hdy
  iintro Hdy
  iapply (wp_pure_intro defs 𝒱 c bd)
  iapply HQ
  isplitl [Hx]; · iexact Hx
  iexact Hdy

theorem wp_waitIn {Q : PUnit → sProp 𝕄} (t : Fin 60) {g : ℕ} (hg : g < 60) {R : ℕ} (h : Row R) (eg : g = t.val) (eR : R = 32 * t.val) :
    iprop(InB c b A t ∗ owesAny) ⊢ iprop((iprop(InC c b A t ∗ owesAny) -∗ Q ⟨⟩) -∗ WP (waitIn b g hg R h) Q) := by
  subst eg; subst eR
  unfold InB InC InR waitIn
  iintro ⟨⟨Hx, Hdy⟩, HO⟩ HQ
  rw [wp_bind]
  iapply (wp_waitB defs 𝒱 c bd) $$ [Hx HO]
  · isplitl [Hx]; · iexact Hx
    iexact HO
  iintro ⟨Hxv, Hx, Hs, HO⟩
  iapply (wp_waitB defs 𝒱 c bd) $$ [Hdy HO]
  · isplitl [Hdy]; · iexact Hdy
    iexact HO
  iintro ⟨Hdyv, Hdy, Hs', HO⟩
  iapply HQ
  isplitr [HO]
  · isplitl [Hxv]; · iexact Hxv
    isplitl [Hdyv]; · iexact Hdyv
    isplitl [Hx Hs]
    · isplitl [Hx]; · iexact Hx
      iexact Hs
    · isplitl [Hdy]; · iexact Hdy
      iexact Hs'
  iexact HO

/-- The loop that starts them all. -/
theorem wp_startLoop {Q : PUnit → sProp 𝕄} (X0 DY0 : FVec F S1920x5120 .bf16) :
    (bigSep Finset.univ (InA c b A X0 DY0) : sProp 𝕄) ⊢ iprop((bigSep Finset.univ (InB c b A) -∗ Q ⟨⟩) -∗ WP (startLoop b) Q) := by
  unfold startLoop
  iintro H HQ
  iapply (Scf.wp_for frame (wpE defs 𝒱 (c : Thread nD τ) bd) Set.univ _ _ _ _ _ _
    (fun k _ => iprop(bigSep (pending k) (InA c b A X0 DY0) ∗ bigSep (issued k) (InB c b A))) (fun k acc => by
      rw [pend_step _ k.val (lt60 k), done_step _ k.val (lt60 k)]
      iintro ⟨⟨Ha, Hp⟩, Hi⟩
      iapply (wp_startIn defs 𝒱 c bd b A X0 DY0 ⟨k.val, lt60 k⟩ (reg60_lt k) (row60_ok k) (reg60_eq k) (row60_eq k)) $$ Ha
      iintro Hb
      isplitl [Hp]; · iexact Hp
      isplitl [Hb]; · iexact Hb
      iexact Hi))
  rw [pending_zero, done_zero]
  isplitl [H]
  · isplitl [H]; · iexact H
    iempintro
  · iintro %_
    rw [show Scf.trips loop60.lb loop60.ub loop60.st = 60 from trips60, pend_all, done_all]
    iintro ⟨-, H⟩
    iapply HQ $$ H

/-! ## The copies out of the codes -/

/-- What the copy out of group `t`'s codes delivers. -/
def OutD (t : Fin 60) : sProp 𝕄 := iprop(own b.ocodes (rowsT t) fullShare A.codes ∗ own b.codes (rowsT t) fullShare A.codes)
instance outD_storable (t : Fin 60) : BI.Storable (upEmb : UEmb _ 𝕄) (OutD c b A t : sProp 𝕄) := by unfold OutD; infer_instance
/-- The units of one copy out. -/
abbrev outN : ℕ := (blk b.ocodes 0 (by decide)).view.dmaCredit
theorem blk_credit {sp : Space} {e : EltTy} (m : Memref sig .tc sp S1920x5120 e) {R : ℕ} (h : Row R) :
    (blk m R h).view.dmaCredit = (blk m 0 (by decide)).view.dmaCredit := rfl
/-- The copies out with `k` started and `u` units waited for. -/
def OutB (k u : ℕ) : sProp 𝕄 := Batch EC (c : Thread nD τ) (.dma b.outsem.sem) () (outN b) (OutD c b A) k u

variable (Z O0 : FVec F S1920x5120 .fp8e5m2)
/-- Before group `k`'s codes are written, with all written before on their way out; -/
def OutM (k : ℕ) : sProp 𝕄 :=
  iprop(bigSep (pending k) (fun t => own b.codes (rowsT t) fullShare Z) ∗ bigSep (pending k) (fun t => own b.ocodes (rowsT t) fullShare O0) ∗ OutB c b A k 0)
/-- after group `k`'s are written. -/
def OutW (k : ℕ) (hk : k < 60) : sProp 𝕄 :=
  iprop(bigSep (pending (k + 1)) (fun t => own b.codes (rowsT t) fullShare Z) ∗ bigSep (pending k) (fun t => own b.ocodes (rowsT t) fullShare O0)
    ∗ own b.codes (rowsT ⟨k, hk⟩) fullShare A.codes ∗ OutB c b A k 0)

theorem wp_startOut {Q : PUnit → sProp 𝕄} (k : ℕ) (hk : k < 60) {R : ℕ} (h : Row R) (eR : R = 32 * k) :
    (OutW c b A Z O0 k hk : sProp 𝕄) ⊢ iprop((OutM c b A Z O0 (k + 1) -∗ Q ⟨⟩) -∗ WP (startOut b R h) Q) := by
  subst eR
  unfold OutW OutM OutB startOut
  rw [pend_step (fun t => own b.ocodes (rowsT t) fullShare O0) k hk]
  iintro ⟨Hc, ⟨Ho, Hos⟩, Hw, HB⟩ HQ
  iapply (own_dmaBatch defs 𝒱 c bd (src := b.codes) (dst := b.ocodes) (sm := .dma b.outsem.sem)
    (r := Rect.unit (s := S1920x5120) ![32 * k, 0] S32x5120.size (inb_blk h)) (hr := fun _ => rfl) (D := OutD c b A) (X := O0) (Y := A.codes) (outN b) (blk_credit b.ocodes h) hk (by unfold OutD rowsT rows; rfl)) $$ [Ho Hw HB]
  · isplitl [Hw]; · iexact Hw
    isplitl [Ho]; · iexact Ho
    iexact HB
  iintro HB
  rw [wp_ret]; imodintro
  iapply HQ
  isplitl [Hc]; · iexact Hc
  isplitl [Hos]; · iexact Hos
  iexact HB

/-- The drain at its trip `k`. -/
def DrainS (k : ℕ) : sProp 𝕄 := if k < 60 then OutB c b A 60 (outN b * k) else iprop(bigSep Finset.univ (OutD c b A) ∗ sem0 b.outsem.sem)

theorem outN_pos : 0 < outN b := View.dmaCredit_pos _ (by decide)

theorem wp_drainLoop {Q : PUnit → sProp 𝕄} :
    iprop(OutB c b A 60 0 ∗ owesAny)
      ⊢ iprop((iprop((bigSep Finset.univ (OutD c b A) ∗ sem0 b.outsem.sem) ∗ owesAny) -∗ Q ⟨⟩) -∗ WP (drainLoop b) Q) := by
  unfold drainLoop
  iintro ⟨H, HO⟩ HQ
  iapply (Scf.wp_for frame (wpE defs 𝒱 (c : Thread nD τ) bd) Set.univ _ _ _ _ _ _
    (fun k _ => iprop(DrainS c b A k ∗ owesAny)) (fun k acc => by
      have hk := lt60 k
      unfold waitOut
      rw [show DrainS c b A k.val = OutB (F := F) (nD := nD) (τ := τ) c b A 60 (outN b * k.val) from if_pos hk, wp_bind]
      unfold OutB Owes
      iintro ⟨H, %W, HO⟩
      by_cases hl : k.val + 1 = 60
      · rw [show DrainS c b A (k.val + 1) = iprop(bigSep Finset.univ (OutD (F := F) (nD := nD) (τ := τ) c b A) ∗ sem0 b.outsem.sem) from if_neg (by omega)]
        iapply (wp_waitBatchLast EC 𝒱 (c : Thread nD τ) bd (srcw := blk b.codes (row60 k).toNat (row60_ok k)) (dstw := blk b.ocodes (row60 k).toNat (row60_ok k)) () (N := outN b) rfl (outN_pos b) (show outN b * k.val + outN b = outN b * 60 by rw [← hl, Nat.mul_succ])) $$ [H HO]
        · isplitl [H]; · iexact H
          iexact HO
        iintro ⟨HD, Hs, HO⟩
        rw [wp_ret]; imodintro
        iapply (wp_pure_intro defs 𝒱 c bd)
        unfold Sem0
        isplitl [HD Hs]
        · isplitl [HD]; · iexact HD
          iexact Hs
        iexists _
        iexact HO
      · rw [show DrainS c b A (k.val + 1) = OutB (F := F) (nD := nD) (τ := τ) c b A 60 (outN b * (k.val + 1)) from if_pos (by omega), Nat.mul_succ]
        unfold OutB
        iapply (wp_waitBatch EC 𝒱 (c : Thread nD τ) bd (srcw := blk b.codes (row60 k).toNat (row60_ok k)) (dstw := blk b.ocodes (row60 k).toNat (row60_ok k)) () (N := outN b) rfl (show outN b * k.val + outN b < outN b * 60 by
          rw [← Nat.mul_succ]; exact Nat.mul_lt_mul_of_pos_left (by omega) (outN_pos b))) $$ [H HO]
        · isplitl [H]; · iexact H
          iexact HO
        iintro ⟨HD, HO⟩
        rw [wp_ret]; imodintro
        iapply (wp_pure_intro defs 𝒱 c bd)
        isplitl [HD]; · iexact HD
        iexists _
        iexact HO))
  rw [show DrainS c b A 0 = OutB (F := F) (nD := nD) (τ := τ) c b A 60 0 from if_pos (by decide)]
  isplitl [H HO]
  · isplitl [H]; · iexact H
    iexact HO
  · iintro %_
    rw [show Scf.trips loop60.lb loop60.ub loop60.st = 60 from trips60,
      show DrainS c b A 60 = iprop(bigSep Finset.univ (OutD (F := F) (nD := nD) (τ := τ) c b A) ∗ sem0 b.outsem.sem) from if_neg (by omega)]
    iintro H
    iapply HQ $$ H

end Rms

end
-- ==== Proof.Body.lean ====
/- The rules of the kernel's parts and of the whole kernel: from its buffers at any contents, its arguments at given values and its
   semaphores at rest, it returns with its results at the values `Args` names and everything else as it was. -/
module

public import proofs.«01_k».proof.Proof.Copies

@[expose] public section

noncomputable section

namespace Rms

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds

variable {F : FTy → Type} [FloatOps F] {nD : Nat} {τ : Topo} {sig : RefSig} {Λ : Labels}
local notation "𝕄" => MT nD τ sig Unit (Elt F) ℕ (UU sig nD τ) ℕ

variable (defs : Defs nD τ sig (Elt F) Λ) (𝒱 : Variants) (c : Dev nD) (bd : Option 𝒱.V)
local notation "WP" => wp frame (wpE defs 𝒱 (c : Thread nD τ) bd) Set.univ
local notation "own" => Own (F := F) (nD := nD) (τ := τ) c
local notation "sem0" => Sem0 (F := F) (nD := nD) (τ := τ) c
local notation "owesAny" => (Owes (F := F) (nD := nD) (τ := τ) (sig := sig) c)

/-! ## Whole loads and stores, and the spread of `rstd` -/

theorem window_whole {n m : ℕ} {α : Type} (X : (⟨2, ![n, m]⟩ : Shape).Idx → α)
    (inb : ∀ a, (![0, 0] : Fin 2 → ℕ) a + (⟨2, ![n, m]⟩ : Shape).size a ≤ (⟨2, ![n, m]⟩ : Shape).size a) :
    VecWindow.window X ![0, 0] (⟨2, ![n, m]⟩ : Shape).size inb = X := by
  funext y
  refine congrArg X (funext fun a => Fin.ext ?_)
  match a with
  | ⟨0, _⟩ => show 0 + 1 * (y 0).val = (y 0).val; omega
  | ⟨1, _⟩ => show 0 + 1 * (y 1).val = (y 1).val; omega

theorem put_whole {n m : ℕ} {α : Type} (X w : (⟨2, ![n, m]⟩ : Shape).Idx → α) :
    VecWindow.put X ![0, 0] (⟨2, ![n, m]⟩ : Shape).size w = w := by
  funext y
  have h0 := idx2_lt0 y
  have h1 := idx2_lt1 y
  unfold VecWindow.put
  rw [dif_pos (Fin.forall_fin_two.mpr ⟨⟨Nat.zero_le _, by show (y 0).val < 0 + n; omega⟩, ⟨Nat.zero_le _, by show (y 1).val < 0 + m; omega⟩⟩)]
  refine congrArg w (funext fun a => Fin.ext ?_)
  match a with
  | ⟨0, _⟩ => show (y 0).val - 0 = (y 0).val; omega
  | ⟨1, _⟩ => show (y 1).val - 0 = (y 1).val; omega

variable (b : Bufs sig) (A : Args F)

theorem window_r {R g : ℕ} (hR : R = 32 * g) (h : Row R) :
    (VecWindow.window A.RV ![R, 0] S32x128.size (inb_r h) : S32x128.Idx → _) = A.r g := by
  funext y
  have h0 : (y 0).val < 32 := idx2_lt0 y
  refine congrArg A.RV (funext fun a => Fin.ext ?_)
  match a with
  | ⟨0, _⟩ => show R + 1 * (y 0).val = (32 * g + (y 0).val) % 1920; have := h.1; omega
  | ⟨1, _⟩ => show 0 + 1 * (y 1).val = (y 1).val; omega

/-- The first `128 n` rows spread. -/
def fillS (R0 : FVec F S1920x128 .f32) (n : ℕ) : FVec F S1920x128 .f32 := fun i => if (i 0).val < 128 * n then A.RV i else R0 i

theorem rtV_apply (r : FVec F S1x128 .f32) (y : S128x128.Idx) : rtV r y = r (ix2 0 (y 0)) := by
  unfold rtV
  rw [shapeCast_self]
  unfold transpose broadcastTo
  refine congrArg r (funext fun a => Fin.ext ?_)
  match a with
  | ⟨0, _⟩ => rfl
  | ⟨1, _⟩ => rfl

theorem put_fill (R0 : FVec F S1920x128 .f32) (i : Fin 3) (j : Fin 5) :
    VecWindow.put (fillS A R0 (5 * i.val + j.val)) ![640 * i.val + 128 * j.val, 0] S128x128.size (rtV (VecWindow.window A.RS ![i.val, 128 * j.val] S1x128.size (inb_rs i j)))
      = fillS A R0 (5 * i.val + j.val + 1) := by
  funext y
  have h1 := idx2_lt1 y
  unfold VecWindow.put
  split
  · next h =>
    have h0 : 640 * i.val + 128 * j.val ≤ (y 0).val ∧ (y 0).val < 640 * i.val + 128 * j.val + 128 := h 0
    rw [show fillS A R0 (5 * i.val + j.val + 1) y = A.RV y from if_pos (by omega), rtV_apply]
    refine congrArg A.RS (funext fun a => Fin.ext ?_)
    match a with
    | ⟨0, _⟩ => show i.val + 1 * 0 = ((y 0).val / 640) % 3; omega
    | ⟨1, _⟩ => show 128 * j.val + 1 * ((y 0).val - (640 * i.val + 128 * j.val)) = (y 0).val % 640; omega
  · next h =>
    have h0 : ¬ (640 * i.val + 128 * j.val ≤ (y 0).val ∧ (y 0).val < 640 * i.val + 128 * j.val + 128) := fun hc => h (Fin.forall_fin_two.mpr
      ⟨hc, Nat.zero_le _, by show (y 1).val < 0 + 128; omega⟩)
    show (if (y 0).val < 128 * (5 * i.val + j.val) then A.RV y else R0 y) = if (y 0).val < 128 * (5 * i.val + j.val + 1) then A.RV y else R0 y
    by_cases hl : (y 0).val < 128 * (5 * i.val + j.val)
    · rw [if_pos hl, if_pos (by omega)]
    · rw [if_neg hl, if_neg (by omega)]

theorem wp_fill {Q : PUnit → sProp 𝕄} (R0 : FVec F S1920x128 .f32) (i : Fin 3) (j : Fin 5) (n : ℕ) (hn : n = 5 * i.val + j.val) :
    iprop(own b.rsv Finset.univ fullShare A.RS ∗ own b.rv Finset.univ fullShare (fillS A R0 n))
      ⊢ iprop((iprop(own b.rsv Finset.univ fullShare A.RS ∗ own b.rv Finset.univ fullShare (fillS A R0 (n + 1))) -∗ Q ⟨⟩) -∗ WP (fill b i j) Q) := by
  subst hn
  unfold fill
  iintro ⟨Hs, Hr⟩ HQ
  rw [wp_bind]
  iapply (wp_ld defs 𝒱 c bd (Finset.subset_univ _) rfl) $$ Hs
  iintro Hs
  rw [wp_bind]
  iapply (wp_ld defs 𝒱 c bd (Finset.subset_univ _) rfl) $$ Hr
  iintro Hr
  iapply (wp_st defs 𝒱 c bd (Y := fillS A R0 (5 * i.val + j.val + 1)) (Finset.subset_univ _) (fun x _ => by
    rw [shapeCast_self]; exact congrFun (put_fill A R0 i j) x)) $$ Hr
  iintro Hr
  iapply HQ
  isplitl [Hs]; · iexact Hs
  iexact Hr

theorem fills_drop : ∀ n : Fin 15, fills.drop n.val = ((⟨n.val / 5, by omega⟩ : Fin 3), (⟨n.val % 5, by omega⟩ : Fin 5)) :: fills.drop (n.val + 1) := by decide

theorem wp_fills {Q : PUnit → sProp 𝕄} (R0 : FVec F S1920x128 .f32) : ∀ k n : ℕ, n + k = 15 →
    (iprop(own b.rsv Finset.univ fullShare A.RS ∗ own b.rv Finset.univ fullShare (fillS A R0 n))
      ⊢ iprop((iprop(own b.rsv Finset.univ fullShare A.RS ∗ own b.rv Finset.univ fullShare (fillS A R0 15)) -∗ Q ⟨⟩) -∗ WP (fillAll b (fills.drop n)) Q) : Prop) := by
  intro k
  induction k with
  | zero =>
    intro n hn
    obtain rfl : n = 15 := by omega
    rw [show fills.drop 15 = [] from by decide]
    unfold fillAll
    iintro H HQ
    iapply (wp_pure_intro defs 𝒱 c bd)
    iapply HQ $$ H
  | succ k ih =>
    intro n hn
    rw [fills_drop ⟨n, by omega⟩]
    unfold fillAll
    iintro H HQ
    rw [wp_bind]
    iapply (wp_fill defs 𝒱 c bd b A R0 _ _ n (by show n = 5 * (n / 5) + n % 5; omega)) $$ H
    iintro H
    iapply (ih (n + 1) (by omega)) $$ H HQ

theorem fillS_all (R0 : FVec F S1920x128 .f32) : fillS A R0 15 = A.RV := by
  funext i; have := idx2_lt0 i; exact if_pos (by omega)
theorem fillS_zero (R0 : FVec F S1920x128 .f32) : fillS A R0 0 = R0 := by
  funext i; exact if_neg (by omega)

/-- The scale, the scaled gamma, the zeroed sums, the spread `rstd`. -/
theorem wp_setup {Q : FVec F S1x1 .f32 × FVec F S1x1 .f32 → sProp 𝕄} (S0 : FVec F S1x1 .f32) (G0 : FVec F S1x5120 .f32) (D0 : FVec F S8x5120 .f32) (R0 : FVec F S1920x128 .f32) :
    iprop(own b.histv Finset.univ fullShare A.H ∗ own b.scale Finset.univ fullShare S0 ∗ own b.gav Finset.univ fullShare A.GA ∗ own b.gi Finset.univ fullShare G0
        ∗ own b.dg Finset.univ fullShare D0 ∗ own b.rsv Finset.univ fullShare A.RS ∗ own b.rv Finset.univ fullShare R0)
      ⊢ iprop((iprop(own b.histv Finset.univ fullShare A.H ∗ own b.scale Finset.univ fullShare A.scale ∗ own b.gav Finset.univ fullShare A.GA
          ∗ own b.gi Finset.univ fullShare A.GI ∗ own b.dg Finset.univ fullShare (A.DG 0) ∗ own b.rsv Finset.univ fullShare A.RS ∗ own b.rv Finset.univ fullShare A.RV)
          -∗ Q (invV A.H, scaleV A.H)) -∗ WP (setup b) Q) := by
  unfold setup
  iintro ⟨Hh, Hsc, Hga, Hgi, Hdg, Hrs, Hrv⟩ HQ
  rw [wp_bind]
  iapply (wp_ld defs 𝒱 c bd (Finset.subset_univ _) (window_whole _ _)) $$ Hh
  iintro Hh
  rw [wp_bind]
  iapply (wp_ld defs 𝒱 c bd (Finset.subset_univ _) rfl) $$ Hsc
  iintro Hsc
  rw [wp_bind]
  iapply (wp_st defs 𝒱 c bd (Y := A.scale) (Finset.subset_univ _) (fun x _ => by rw [shapeCast_self]; exact congrFun (put_whole _ _) x)) $$ Hsc
  iintro Hsc
  rw [wp_bind]
  iapply (wp_ld defs 𝒱 c bd (Finset.subset_univ _) (window_whole _ _)) $$ Hga
  iintro Hga
  rw [wp_bind]
  iapply (wp_ld defs 𝒱 c bd (Finset.subset_univ _) rfl) $$ Hgi
  iintro Hgi
  rw [wp_bind]
  iapply (wp_st defs 𝒱 c bd (Y := A.GI) (Finset.subset_univ _) (fun x _ => by rw [shapeCast_self]; exact congrFun (put_whole _ _) x)) $$ Hgi
  iintro Hgi
  rw [wp_bind]
  iapply (wp_ld defs 𝒱 c bd (Finset.subset_univ _) rfl) $$ Hdg
  iintro Hdg
  rw [wp_bind]
  iapply (wp_st defs 𝒱 c bd (Y := A.DG 0) (Finset.subset_univ _) (fun x _ => by rw [shapeCast_self]; exact congrFun (put_whole _ _) x)) $$ Hdg
  iintro Hdg
  rw [wp_bind]
  ihave H : iprop(own b.rsv Finset.univ fullShare A.RS ∗ own b.rv Finset.univ fullShare (fillS A R0 0)) $$ [Hrs Hrv]
  · rw [fillS_zero]
    isplitl [Hrs]; · iexact Hrs
    iexact Hrv
  iapply (wp_fills defs 𝒱 c bd b A R0 15 0 rfl) $$ H
  rw [fillS_all]
  iintro ⟨Hrs, Hrv⟩
  iapply (wp_pure_intro defs 𝒱 c bd)
  iapply HQ
  isplitl [Hh]; · iexact Hh
  isplitl [Hsc]; · iexact Hsc
  isplitl [Hga]; · iexact Hga
  isplitl [Hgi]; · iexact Hgi
  isplitl [Hdg]; · iexact Hdg
  isplitl [Hrs]; · iexact Hrs
  iexact Hrv

/-! ## The groups -/

/-- What a group's statistics leave beside the copies: group `g`'s tiles, the sums, `gamma` and `rstd`. -/
def StatR (g : ℕ) : sProp 𝕄 :=
  iprop(own b.x32 Finset.univ fullShare (tiled (A.x32 g)) ∗ own b.dys Finset.univ fullShare (tiled (A.dys g)) ∗ own b.dg Finset.univ fullShare (A.DG (g + 1))
    ∗ own b.gav Finset.univ fullShare A.GA ∗ own b.rv Finset.univ fullShare A.RV)

theorem wp_first {Q : FVec F S32x128 .f32 → sProp 𝕄} (X0 D0 : FVec F S32x5120 .f32) :
    iprop(bigSep Finset.univ (InB c b A) ∗ own b.x32 Finset.univ fullShare X0 ∗ own b.dys Finset.univ fullShare D0 ∗ own b.dg Finset.univ fullShare (A.DG 0)
        ∗ own b.gav Finset.univ fullShare A.GA ∗ own b.rv Finset.univ fullShare A.RV ∗ owesAny)
      ⊢ iprop((iprop(bigSep (pending 1) (InB c b A) ∗ bigSep (issued 1) (InC c b A) ∗ StatR c b A 0 ∗ owesAny) -∗ Q (A.coef 0))
        -∗ WP (first b A.invd (invV A.H)) Q) := by
  unfold first
  rw [show A.coef 0 = coefT A.invd (invV A.H) (A.r 0) (A.acc 0 40) from rfl]
  rw [← pending_zero, pend_step _ 0 (by decide), done_step _ 0 (by decide), done_zero]
  iintro ⟨⟨Hin, Hins⟩, H32, Hds, Hdg, Hga, Hrv, HO⟩ HQ
  rw [wp_bind]
  iapply (wp_waitIn defs 𝒱 c bd b A ⟨0, by decide⟩ _ _ rfl rfl) $$ [Hin HO]
  · isplitl [Hin]; · iexact Hin
    iexact HO
  unfold InC
  iintro ⟨⟨Hxv, Hdyv, HR⟩, HO⟩
  rw [wp_bind]
  iapply (wp_ld defs 𝒱 c bd (Finset.subset_univ _) (window_r A (g := 0) (R := 0) rfl (by decide))) $$ Hrv
  iintro Hrv
  rw [wp_bind]
  iapply (wp_statsAll defs 𝒱 c bd b A 0 0 _ rfl X0 D0) $$ [Hxv Hdyv H32 Hds Hdg Hga]
  · unfold StatS
    rw [mix_zero, mix_zero, mix_zero]
    isplitl [Hxv]; · iexact Hxv
    isplitl [Hdyv]; · iexact Hdyv
    isplitl [H32]; · iexact H32
    isplitl [Hds]; · iexact Hds
    isplitl [Hdg]; · iexact Hdg
    iexact Hga
  unfold StatS StatR
  rw [mix_all, mix_all, mix_all]
  iintro ⟨Hxv, Hdyv, H32, Hds, Hdg, Hga⟩
  iapply (wp_pure_intro defs 𝒱 c bd)
  iapply HQ
  isplitl [Hins]; · iexact Hins
  isplitl [Hxv Hdyv HR]
  · isplitl
    · isplitl [Hxv]; · iexact Hxv
      isplitl [Hdyv]; · iexact Hdyv
      iexact HR
    · iempintro
  isplitr [HO]
  · isplitl [H32]; · iexact H32
    isplitl [Hds]; · iexact Hds
    isplitl [Hdg]; · iexact Hdg
    isplitl [Hga]; · iexact Hga
    iexact Hrv
  iexact HO

variable (Z O0 : FVec F S1920x5120 .fp8e5m2)

/-- The codes before trip `k` of the main loop: the group before trip `k - 1`'s is still to be copied out. -/
def OutI : ℕ → sProp 𝕄
  | 0 => OutM c b A Z O0 0
  | j + 1 => if h : j < 60 then OutW c b A Z O0 j h else BI.emp

/-- The main loop before its trip `k`. -/
def MainS (k : ℕ) : sProp 𝕄 :=
  iprop(bigSep (pending (k + 1)) (InB c b A) ∗ bigSep (issued (k + 1)) (InC c b A) ∗ StatR c b A k ∗ own b.gi Finset.univ fullShare A.GI
    ∗ OutI c b A Z O0 k ∗ owesAny)

/-- The copy out that a trip starts, if it starts one. -/
theorem wp_tripOut {Q : PUnit → sProp 𝕄} (k : ℕ) (hk : k < 59) (cnd : BitVec 1) (hc : cnd = 1#1 ↔ 1 ≤ k) (R : ℕ) (hR : cnd = 1#1 → Row R) (eR : cnd = 1#1 → R = 32 * (k - 1)) :
    (OutI c b A Z O0 k : sProp 𝕄) ⊢ iprop((OutM c b A Z O0 k -∗ Q ⟨⟩)
      -∗ WP (if h : cnd = 1#1 then do
          startOut b R (hR h)
          pure ⟨⟩
        else do
          pure ⟨⟩ : Prog (TpuEff nD τ sig (Elt F) Λ .tc) PUnit) Q) := by
  match k, hk, hc, eR with
  | 0, _, hc, _ =>
    rw [dif_neg (fun h => absurd (hc.1 h) (by decide))]
    iintro H HQ
    iapply (wp_pure_intro defs 𝒱 c bd)
    unfold OutI
    iapply HQ $$ H
  | j + 1, hk, hc, eR =>
    rw [dif_pos (hc.2 (by omega)), show OutI c b A Z O0 (j + 1) = OutW (F := F) (nD := nD) (τ := τ) c b A Z O0 j (by omega) from dif_pos (by omega)]
    iintro H HQ
    rw [wp_bind]
    iapply (wp_startOut defs 𝒱 c bd b A Z O0 j _ _ (eR (hc.2 (by omega)))) $$ H
    iintro H
    iapply (wp_pure_intro defs 𝒱 c bd)
    iapply HQ $$ H

theorem wp_tripWork {Q : FVec F S32x128 .f32 × M4 F → sProp 𝕄} (k : ℕ) (hk : k < 59) {P R : ℕ} (hP : Row P) (hR : Row R) (eP : P = 32 * k) (eR : R = 32 * (k + 1)) :
    iprop(InC c b A ⟨k + 1, by omega⟩ ∗ StatR c b A k ∗ own b.gi Finset.univ fullShare A.GI ∗ OutM c b A Z O0 k)
      ⊢ iprop((iprop(InC c b A ⟨k + 1, by omega⟩ ∗ StatR c b A (k + 1) ∗ own b.gi Finset.univ fullShare A.GI ∗ OutW c b A Z O0 k (by omega))
          -∗ Q (A.coef (k + 1), A.mg (k + 1)))
        -∗ WP (tripWork b A.invd (invV A.H) P hP R hR (A.coef k) (A.mg k)) Q) := by
  subst eP; subst eR
  unfold tripWork StatR InC OutM OutW
  rw [show (A.coef (k + 1), A.mg (k + 1)) = (coefT A.invd (invV A.H) (A.r (k + 1)) (A.mt k (A.mg k) 40, A.acc (k + 1) 40).2, (A.mt k (A.mg k) 40, A.acc (k + 1) 40).1) from rfl]
  rw [pend_step (fun t => own b.codes (rowsT t) fullShare Z) k (by omega)]
  iintro ⟨⟨Hxv, Hdyv, HR⟩, ⟨H32, Hds, Hdg, Hga, Hrv⟩, Hgi, ⟨Hc, Hcs⟩, Hos, HB⟩ HQ
  rw [wp_bind]
  iapply (wp_ld defs 𝒱 c bd (Finset.subset_univ _) (window_r A (g := k + 1) rfl hR)) $$ Hrv
  iintro Hrv
  rw [wp_bind]
  iapply (wp_bothAll defs 𝒱 c bd b A k (by omega) (32 * k) hP rfl (32 * (k + 1)) hR rfl Z (A.mg k)) $$ [Hxv Hdyv H32 Hds Hdg Hga Hgi Hc]
  · unfold BothS StatS
    rw [mix_zero, mix_zero, mix_zero, mix_zero]
    isplitr [Hgi Hc]
    · isplitl [Hxv]; · iexact Hxv
      isplitl [Hdyv]; · iexact Hdyv
      isplitl [H32]; · iexact H32
      isplitl [Hds]; · iexact Hds
      isplitl [Hdg]; · iexact Hdg
      iexact Hga
    isplitl [Hgi]; · iexact Hgi
    iexact Hc
  unfold BothS StatS
  rw [mix_all, mix_all, mix_all, mix_all]
  iintro ⟨⟨Hxv, Hdyv, H32, Hds, Hdg, Hga⟩, Hgi, Hc⟩
  iapply (wp_pure_intro defs 𝒱 c bd)
  iapply HQ
  isplitl [Hxv Hdyv HR]
  · isplitl [Hxv]; · iexact Hxv
    isplitl [Hdyv]; · iexact Hdyv
    iexact HR
  isplitl [H32 Hds Hdg Hga Hrv]
  · isplitl [H32]; · iexact H32
    isplitl [Hds]; · iexact Hds
    isplitl [Hdg]; · iexact Hdg
    isplitl [Hga]; · iexact Hga
    iexact Hrv
  isplitl [Hgi]; · iexact Hgi
  isplitl [Hcs]; · iexact Hcs
  isplitl [Hos]; · iexact Hos
  isplitl [Hc]; · iexact Hc
  iexact HB

theorem wp_trip {Q : FVec F S32x128 .f32 × M4 F → sProp 𝕄} (k : ℕ) (hk : k < 59) {g : ℕ} (hg : g < 60) (eg : g = k + 1) {W : ℕ} (hW : Row W) (eW : W = 32 * (k + 1))
    (cnd : BitVec 1) (hc : cnd = 1#1 ↔ 1 ≤ k) (R' : ℕ) (hR' : cnd = 1#1 → Row R') (eR' : cnd = 1#1 → R' = 32 * (k - 1))
    {P R : ℕ} (hP : Row P) (hR : Row R) (eP : P = 32 * k) (eR : R = 32 * (k + 1)) :
    (MainS c b A Z O0 k : sProp 𝕄)
      ⊢ iprop((MainS c b A Z O0 (k + 1) -∗ Q (A.coef (k + 1), A.mg (k + 1)))
        -∗ WP (trip b A.invd (invV A.H) g hg W hW cnd R' hR' P hP R hR (A.coef k, A.mg k)) Q) := by
  unfold MainS trip
  rw [pend_step _ (k + 1) (by omega), done_step _ (k + 1) (by omega),
    show OutI c b A Z O0 (k + 1) = OutW (F := F) (nD := nD) (τ := τ) c b A Z O0 k (by omega) from dif_pos (by omega)]
  iintro ⟨⟨Hin, Hins⟩, Hds, HS, Hgi, HI, HO⟩ HQ
  rw [wp_bind]
  iapply (wp_waitIn defs 𝒱 c bd b A ⟨k + 1, by omega⟩ hg hW eg eW) $$ [Hin HO]
  · isplitl [Hin]; · iexact Hin
    iexact HO
  iintro ⟨HC, HO⟩
  rw [wp_bind]
  iapply (wp_tripOut defs 𝒱 c bd b A Z O0 k hk cnd hc R' hR' eR') $$ HI
  iintro HM
  iapply (wp_tripWork defs 𝒱 c bd b A Z O0 k hk hP hR eP eR) $$ [HC HS Hgi HM]
  · isplitl [HC]; · iexact HC
    isplitl [HS]; · iexact HS
    isplitl [Hgi]; · iexact Hgi
    iexact HM
  iintro ⟨HC, HS, Hgi, HW⟩
  iapply HQ
  isplitl [Hins]; · iexact Hins
  isplitl [HC Hds]
  · isplitl [HC]; · iexact HC
    iexact Hds
  isplitl [HS]; · iexact HS
  isplitl [Hgi]; · iexact Hgi
  isplitl [HW]; · iexact HW
  iexact HO

theorem wp_mainLoop {Q : FVec F S32x128 .f32 × M4 F → sProp 𝕄} :
    (MainS c b A Z O0 0 : sProp 𝕄)
      ⊢ iprop((MainS c b A Z O0 59 -∗ Q (A.coef 59, A.mg 59)) -∗ WP (mainLoop b A.invd (invV A.H) (A.coef 0)) Q) := by
  unfold mainLoop
  iintro H HQ
  iapply (Scf.wp_for frame (wpE defs 𝒱 (c : Thread nD τ) bd) Set.univ _ _ _ _ _ _
    (fun k acc => iprop(⌜acc = (A.coef k, A.mg k)⌝ ∗ MainS c b A Z O0 k)) (fun k acc => by
      iintro ⟨%ha, H⟩
      subst ha
      iapply (wp_trip defs 𝒱 c bd b A Z O0 k.val (lt59 k) (reg59_lt k) (reg59_eq k) (rowW_ok k) (rowW_eq k) (cnd59 k) (cnd59_iff k) (rowQ k) (rowQ_ok k) (rowQ_eq k)
        (rowP_ok k) (rowR_ok k) (rowP_eq k) (rowR_eq k)) $$ H
      iintro H
      isplitr; · ipureintro; rfl
      iexact H))
  isplitl [H]
  · isplitr; · ipureintro; rfl
    iexact H
  · iintro %acc'
    rw [show Scf.trips loop59.lb loop59.ub loop59.st = 59 from trips59]
    iintro ⟨%ha, H⟩
    subst ha
    iapply HQ $$ H

/-! ## The whole kernel -/

/-- The small results' copies on their way. -/
def SmallR : sProp 𝕄 :=
  iprop(FlW c b.dgo b.odg (smSem b 3) A.dgamma ∗ FlW c b.scale b.oscale (smSem b 4) A.scale ∗ FlW c b.amax b.oamax (smSem b 5) A.amax)

theorem wp_last {Q : PUnit → sProp 𝕄} (G0 : FVec F S1x5120 .f32) (A0 : FVec F S1x1 .f32) (O1 : FVec F S1x5120 .f32) (O3 O4 : FVec F S1x1 .f32) :
    iprop(OutW c b A Z O0 58 (by omega) ∗ StatR c b A 59 ∗ own b.gi Finset.univ fullShare A.GI ∗ own b.dgo Finset.univ fullShare G0 ∗ own b.amax Finset.univ fullShare A0
        ∗ own b.scale Finset.univ fullShare A.scale ∗ own b.odg Finset.univ fullShare O1 ∗ own b.oscale Finset.univ fullShare O3 ∗ own b.oamax Finset.univ fullShare O4
        ∗ sem0 (smSem b 3) ∗ sem0 (smSem b 4) ∗ sem0 (smSem b 5))
      ⊢ iprop((iprop(OutB c b A 60 0 ∗ StatR c b A 59 ∗ own b.gi Finset.univ fullShare A.GI ∗ SmallR c b A) -∗ Q ⟨⟩)
        -∗ WP (last b (scaleV A.H) (A.coef 59) (A.mg 59)) Q) := by
  unfold last
  iintro ⟨HW, HS, Hgi, Hdgo, Ham, Hsc, Ho1, Ho3, Ho4, Hs3, Hs4, Hs5⟩ HQ
  rw [wp_bind]
  iapply (wp_startOut defs 𝒱 c bd b A Z O0 58 _ _ rfl) $$ HW
  unfold OutM
  rw [pend_step (fun t => own b.codes (rowsT t) fullShare Z) 59 (by omega)]
  iintro ⟨⟨Hc, Hcs⟩, Hos, HB⟩
  rw [wp_bind]
  unfold StatR
  icases HS with ⟨H32, Hds, Hdg, Hga, Hrv⟩
  iapply (wp_gradAll defs 𝒱 c bd b A 59 1888 (by omega) _ rfl Z (A.mg 59)) $$ [H32 Hds Hgi Hc]
  · unfold GradS
    rw [mix_zero]
    isplitl [Hds]; · iexact Hds
    isplitl [Hgi]; · iexact Hgi
    isplitl [H32]; · iexact H32
    iexact Hc
  unfold GradS
  rw [mix_all]
  iintro ⟨Hds, Hgi, H32, Hc⟩
  rw [wp_bind]
  iapply (wp_ld defs 𝒱 c bd (Finset.subset_univ _) (window_whole _ _)) $$ Hdg
  iintro Hdg
  rw [wp_bind]
  iapply (wp_ld defs 𝒱 c bd (Finset.subset_univ _) rfl) $$ Hdgo
  iintro Hdgo
  rw [wp_bind]
  iapply (wp_st defs 𝒱 c bd (Y := A.dgamma) (Finset.subset_univ _) (fun x _ => by rw [shapeCast_self]; exact congrFun (put_whole _ _) x)) $$ Hdgo
  iintro Hdgo
  rw [wp_bind]
  iapply (wp_ld defs 𝒱 c bd (Finset.subset_univ _) rfl) $$ Ham
  iintro Ham
  rw [wp_bind]
  iapply (wp_st defs 𝒱 c bd (Y := A.amax) (Finset.subset_univ _) (fun x _ => by rw [shapeCast_self]; exact congrFun (put_whole _ _) x)) $$ Ham
  iintro Ham
  rw [wp_bind]
  iapply (wp_startOut defs 𝒱 c bd b A Z O0 59 (by omega) _ rfl) $$ [Hc Hcs Hos HB]
  · unfold OutW
    isplitl [Hcs]; · iexact Hcs
    isplitl [Hos]; · iexact Hos
    isplitl [Hc]; · iexact Hc
    iexact HB
  unfold OutM
  rw [pend_all, pend_all]
  iintro ⟨-, -, HB⟩
  rw [wp_bind]
  iapply (wp_copyW defs 𝒱 c bd (by decide)) $$ [Hdgo Ho1 Hs3]
  · isplitl [Hdgo]; · iexact Hdgo
    isplitl [Ho1]; · iexact Ho1
    iexact Hs3
  iintro HF3
  rw [wp_bind]
  iapply (wp_copyW defs 𝒱 c bd (by decide)) $$ [Hsc Ho3 Hs4]
  · isplitl [Hsc]; · iexact Hsc
    isplitl [Ho3]; · iexact Ho3
    iexact Hs4
  iintro HF4
  iapply (wp_copyW defs 𝒱 c bd (by decide)) $$ [Ham Ho4 Hs5]
  · isplitl [Ham]; · iexact Ham
    isplitl [Ho4]; · iexact Ho4
    iexact Hs5
  iintro HF5
  iapply HQ
  isplitl [HB]; · iexact HB
  isplitl [H32 Hds Hdg Hga Hrv]
  · isplitl [H32]; · iexact H32
    isplitl [Hds]; · iexact Hds
    isplitl [Hdg]; · iexact Hdg
    isplitl [Hga]; · iexact Hga
    iexact Hrv
  isplitl [Hgi]; · iexact Hgi
  unfold SmallR
  isplitl [HF3]; · iexact HF3
  isplitl [HF4]; · iexact HF4
  iexact HF5

theorem wp_waitResults {Q : PUnit → sProp 𝕄} :
    iprop(SmallR c b A ∗ owesAny)
      ⊢ iprop((iprop((own b.odg Finset.univ fullShare A.dgamma ∗ own b.dgo Finset.univ fullShare A.dgamma ∗ sem0 (smSem b 3))
          ∗ (own b.oscale Finset.univ fullShare A.scale ∗ own b.scale Finset.univ fullShare A.scale ∗ sem0 (smSem b 4))
          ∗ (own b.oamax Finset.univ fullShare A.amax ∗ own b.amax Finset.univ fullShare A.amax ∗ sem0 (smSem b 5)) ∗ owesAny) -∗ Q ⟨⟩)
        -∗ WP (waitResults b) Q) := by
  unfold SmallR waitResults
  iintro ⟨⟨H3, H4, H5⟩, HO⟩ HQ
  rw [wp_bind]
  iapply (wp_waitW defs 𝒱 c bd) $$ [H3 HO]
  · isplitl [H3]; · iexact H3
    iexact HO
  iintro ⟨Ho3, Hv3, Hs3, HO⟩
  rw [wp_bind]
  iapply (wp_waitW defs 𝒱 c bd) $$ [H4 HO]
  · isplitl [H4]; · iexact H4
    iexact HO
  iintro ⟨Ho4, Hv4, Hs4, HO⟩
  rw [wp_bind]
  iapply (wp_waitW defs 𝒱 c bd) $$ [H5 HO]
  · isplitl [H5]; · iexact H5
    iexact HO
  iintro ⟨Ho5, Hv5, Hs5, HO⟩
  iapply (wp_pure_intro defs 𝒱 c bd)
  iapply HQ
  isplitl [Ho3 Hv3 Hs3]
  · isplitl [Ho3]; · iexact Ho3
    isplitl [Hv3]; · iexact Hv3
    iexact Hs3
  isplitl [Ho4 Hv4 Hs4]
  · isplitl [Ho4]; · iexact Ho4
    isplitl [Hv4]; · iexact Hv4
    iexact Hs4
  isplitl [Ho5 Hv5 Hs5]
  · isplitl [Ho5]; · iexact Ho5
    isplitl [Hv5]; · iexact Hv5
    iexact Hs5
  iexact HO

/-- The small arguments' copies on their way. -/
def SmallI : sProp 𝕄 :=
  iprop(FlW c b.rs b.rsv (smSem b 0) A.RS ∗ FlW c b.ga b.gav (smSem b 1) A.GA ∗ FlW c b.hist b.histv (smSem b 2) A.H)

theorem wp_startSmall {Q : PUnit → sProp 𝕄} (R0 : FVec F S3x640 .f32) (G0 : FVec F S1x5120 .f32) (H0 : FVec F S1x16 .f32) :
    iprop((own b.rs Finset.univ fullShare A.RS ∗ own b.rsv Finset.univ fullShare R0 ∗ sem0 (smSem b 0))
        ∗ (own b.ga Finset.univ fullShare A.GA ∗ own b.gav Finset.univ fullShare G0 ∗ sem0 (smSem b 1))
        ∗ (own b.hist Finset.univ fullShare A.H ∗ own b.histv Finset.univ fullShare H0 ∗ sem0 (smSem b 2)))
      ⊢ iprop((SmallI c b A -∗ Q ⟨⟩) -∗ WP (startSmall b) Q) := by
  unfold SmallI startSmall
  iintro ⟨H0, H1, H2⟩ HQ
  rw [wp_bind]
  iapply (wp_copyW defs 𝒱 c bd (by decide)) $$ H0
  iintro H0
  rw [wp_bind]
  iapply (wp_copyW defs 𝒱 c bd (by decide)) $$ H1
  iintro H1
  iapply (wp_copyW defs 𝒱 c bd (by decide)) $$ H2
  iintro H2
  iapply HQ
  isplitl [H0]; · iexact H0
  isplitl [H1]; · iexact H1
  iexact H2

theorem wp_waitSmall {Q : PUnit → sProp 𝕄} :
    iprop(SmallI c b A ∗ owesAny)
      ⊢ iprop((iprop((own b.rsv Finset.univ fullShare A.RS ∗ own b.rs Finset.univ fullShare A.RS ∗ sem0 (smSem b 0))
          ∗ (own b.gav Finset.univ fullShare A.GA ∗ own b.ga Finset.univ fullShare A.GA ∗ sem0 (smSem b 1))
          ∗ (own b.histv Finset.univ fullShare A.H ∗ own b.hist Finset.univ fullShare A.H ∗ sem0 (smSem b 2)) ∗ owesAny) -∗ Q ⟨⟩)
        -∗ WP (waitSmall b) Q) := by
  unfold SmallI waitSmall
  iintro ⟨⟨H3, H4, H5⟩, HO⟩ HQ
  rw [wp_bind]
  iapply (wp_waitW defs 𝒱 c bd) $$ [H3 HO]
  · isplitl [H3]; · iexact H3
    iexact HO
  iintro ⟨Ho3, Hv3, Hs3, HO⟩
  rw [wp_bind]
  iapply (wp_waitW defs 𝒱 c bd) $$ [H4 HO]
  · isplitl [H4]; · iexact H4
    iexact HO
  iintro ⟨Ho4, Hv4, Hs4, HO⟩
  iapply (wp_waitW defs 𝒱 c bd) $$ [H5 HO]
  · isplitl [H5]; · iexact H5
    iexact HO
  iintro ⟨Ho5, Hv5, Hs5, HO⟩
  iapply HQ
  isplitl [Ho3 Hv3 Hs3]
  · isplitl [Ho3]; · iexact Ho3
    isplitl [Hv3]; · iexact Hv3
    iexact Hs3
  isplitl [Ho4 Hv4 Hs4]
  · isplitl [Ho4]; · iexact Ho4
    isplitl [Hv4]; · iexact Hv4
    iexact Hs4
  isplitl [Ho5 Hv5 Hs5]
  · isplitl [Ho5]; · iexact Ho5
    isplitl [Hv5]; · iexact Hv5
    iexact Hs5
  iexact HO

/-- A buffer at any contents. -/
def Any {sp : Space} {s : Shape} {e : EltTy} (m : Memref sig .tc sp s e) : sProp 𝕄 := iprop(∃ X, own m Finset.univ fullShare X)
local notation "any" => Any (F := F) (nD := nD) (τ := τ) c

theorem any_of {sp : Space} {s : Shape} {e : EltTy} (m : Memref sig .tc sp s e) (X : s.Idx → Elt F e) : (own m Finset.univ fullShare X : sProp 𝕄) ⊢ any m := by
  unfold Any; iintro H; iexists X; iexact H

/-- The arguments in HBM. -/
def ArgS : sProp 𝕄 :=
  iprop(own b.x Finset.univ fullShare A.X ∗ own b.dy Finset.univ fullShare A.DY ∗ own b.ga Finset.univ fullShare A.GA ∗ own b.rs Finset.univ fullShare A.RS
    ∗ own b.hist Finset.univ fullShare A.H)
/-- The results in HBM. -/
def ResS : sProp 𝕄 :=
  iprop(own b.odg Finset.univ fullShare A.dgamma ∗ own b.ocodes Finset.univ fullShare A.codes ∗ own b.oscale Finset.univ fullShare A.scale
    ∗ own b.oamax Finset.univ fullShare A.amax)
/-- The result arrays at any contents. -/
def ResA : sProp 𝕄 := iprop(any b.odg ∗ any b.ocodes ∗ any b.oscale ∗ any b.oamax)
/-- The scratch buffers at any contents. -/
def ScrA : sProp 𝕄 :=
  iprop(any b.xv ∗ any b.dyv ∗ any b.codes ∗ any b.x32 ∗ any b.dys ∗ any b.rv ∗ any b.gav ∗ any b.gi ∗ any b.rsv ∗ any b.histv ∗ any b.dg ∗ any b.dgo
    ∗ any b.scale ∗ any b.amax)
/-- The semaphores at rest. -/
def SemS : sProp 𝕄 :=
  iprop((bigSep (Finset.univ : Finset (Fin 60)) (fun t => sem0 (inSem b 0 t.val t.isLt)) ∗ bigSep (Finset.univ : Finset (Fin 60)) (fun t => sem0 (inSem b 1 t.val t.isLt)))
    ∗ sem0 b.outsem.sem ∗ sem0 (smSem b 0) ∗ sem0 (smSem b 1) ∗ sem0 (smSem b 2) ∗ sem0 (smSem b 3) ∗ sem0 (smSem b 4) ∗ sem0 (smSem b 5))

/-- All groups' rows before the copies in, from the whole arrays and the semaphores; -/
theorem inA_all (X0 DY0 : FVec F S1920x5120 .bf16) :
    (bigSep Finset.univ (InA c b A X0 DY0) : sProp 𝕄)
      = iprop((own b.x Finset.univ fullShare A.X ∗ own b.xv Finset.univ fullShare X0 ∗ bigSep Finset.univ (fun t : Fin 60 => sem0 (inSem b 0 t.val t.isLt)))
        ∗ (own b.dy Finset.univ fullShare A.DY ∗ own b.dyv Finset.univ fullShare DY0 ∗ bigSep Finset.univ (fun t : Fin 60 => sem0 (inSem b 1 t.val t.isLt)))) := by
  rw [own_rows c b.x, own_rows c b.xv, own_rows c b.dy, own_rows c b.dyv]
  unfold InA
  simp only [bigSep_sep']
/-- and after them. -/
theorem inC_all :
    (bigSep Finset.univ (InC c b A) : sProp 𝕄)
      = iprop(own b.xv Finset.univ fullShare A.X ∗ own b.dyv Finset.univ fullShare A.DY
        ∗ (own b.x Finset.univ fullShare A.X ∗ bigSep Finset.univ (fun t : Fin 60 => sem0 (inSem b 0 t.val t.isLt)))
        ∗ (own b.dy Finset.univ fullShare A.DY ∗ bigSep Finset.univ (fun t : Fin 60 => sem0 (inSem b 1 t.val t.isLt)))) := by
  rw [own_rows c b.x, own_rows c b.xv, own_rows c b.dy, own_rows c b.dyv]
  unfold InC InR
  simp only [bigSep_sep']

/-- The copies out after trip `j`. -/
theorem outI_succ (j : ℕ) (h : j < 60) : (OutI c b A Z O0 (j + 1) : sProp 𝕄) = OutW c b A Z O0 j h := by
  rw [OutI]; exact dif_pos h

/-- The copies out before the first. -/
theorem outM_start : iprop(own b.codes Finset.univ fullShare Z ∗ own b.ocodes Finset.univ fullShare O0 ∗ sem0 b.outsem.sem)
    ⊢ (|={Set.univ}=> OutM c b A Z O0 0 : sProp 𝕄) := by
  rw [own_rows c b.codes, own_rows c b.ocodes]
  unfold OutM OutB Sem0
  rw [pending_zero]
  iintro ⟨Hc, Ho, Hs⟩
  imod (batch_alloc' EC (c : Thread nD τ) () (outN b) (OutD c b A) (E := Set.univ)) $$ Hs with HB
  imodintro
  isplitl [Hc]; · iexact Hc
  isplitl [Ho]; · iexact Ho
  iexact HB

/-- The kernel, run from its arguments: it leaves them, and its results at the values `Args` names. -/
theorem wp_kern {Q : PUnit → sProp 𝕄} :
    iprop(ArgS c b A ∗ ResA c b ∗ ScrA c b ∗ SemS c b ∗ owesAny)
      ⊢ iprop((iprop(ArgS c b A ∗ ResS c b A ∗ ScrA c b ∗ SemS c b ∗ owesAny) -∗ Q ⟨⟩) -∗ WP (kern b A.invd) Q) := by
  unfold ArgS ResA ScrA SemS kern
  iintro ⟨⟨Hx, Hdy, Hga, Hrs, Hh⟩, ⟨Ho1, Ho2, Ho3, Ho4⟩, ⟨Vx, Vdy, Vc, V32, Vds, Vrv, Vga, Vgi, Vrs, Vh, Vdg, Vdo, Vsc, Vam⟩, ⟨⟨Hi0, Hi1⟩, HsO, Hs0, Hs1, Hs2, Hs3, Hs4, Hs5⟩, HO⟩ HQ
  unfold Any
  icases Ho1 with ⟨%o1, Ho1⟩
  icases Ho2 with ⟨%o2, Ho2⟩
  icases Ho3 with ⟨%o3, Ho3⟩
  icases Ho4 with ⟨%o4, Ho4⟩
  icases Vx with ⟨%vx, Vx⟩
  icases Vdy with ⟨%vdy, Vdy⟩
  icases Vc with ⟨%vc, Vc⟩
  icases V32 with ⟨%v32, V32⟩
  icases Vds with ⟨%vds, Vds⟩
  icases Vrv with ⟨%vrv, Vrv⟩
  icases Vga with ⟨%vga, Vga⟩
  icases Vgi with ⟨%vgi, Vgi⟩
  icases Vrs with ⟨%vrs, Vrs⟩
  icases Vh with ⟨%vh, Vh⟩
  icases Vdg with ⟨%vdg, Vdg⟩
  icases Vdo with ⟨%vdo, Vdo⟩
  icases Vsc with ⟨%vsc, Vsc⟩
  icases Vam with ⟨%vam, Vam⟩
  rw [wp_bind]
  iapply (wp_startSmall defs 𝒱 c bd b A vrs vga vh) $$ [Hrs Vrs Hs0 Hga Vga Hs1 Hh Vh Hs2]
  · isplitl [Hrs Vrs Hs0]
    · isplitl [Hrs]; · iexact Hrs
      isplitl [Vrs]; · iexact Vrs
      iexact Hs0
    isplitl [Hga Vga Hs1]
    · isplitl [Hga]; · iexact Hga
      isplitl [Vga]; · iexact Vga
      iexact Hs1
    isplitl [Hh]; · iexact Hh
    isplitl [Vh]; · iexact Vh
    iexact Hs2
  iintro HI
  rw [wp_bind]
  iapply (wp_startLoop defs 𝒱 c bd b A vx vdy) $$ [Hx Vx Hi0 Hdy Vdy Hi1]
  · rw [inA_all]
    isplitl [Hx Vx Hi0]
    · isplitl [Hx]; · iexact Hx
      isplitl [Vx]; · iexact Vx
      iexact Hi0
    isplitl [Hdy]; · iexact Hdy
    isplitl [Vdy]; · iexact Vdy
    iexact Hi1
  iintro HB
  rw [wp_bind]
  iapply (wp_waitSmall defs 𝒱 c bd b A) $$ [HI HO]
  · isplitl [HI]; · iexact HI
    iexact HO
  iintro ⟨⟨Vrs, Hrs, Hs0⟩, ⟨Vga, Hga, Hs1⟩, ⟨Vh, Hh, Hs2⟩, HO⟩
  rw [wp_bind]
  iapply (wp_setup defs 𝒱 c bd b A vsc vgi vdg vrv) $$ [Vh Vsc Vga Vgi Vdg Vrs Vrv]
  · isplitl [Vh]; · iexact Vh
    isplitl [Vsc]; · iexact Vsc
    isplitl [Vga]; · iexact Vga
    isplitl [Vgi]; · iexact Vgi
    isplitl [Vdg]; · iexact Vdg
    isplitl [Vrs]; · iexact Vrs
    iexact Vrv
  iintro ⟨Vh, Vsc, Vga, Vgi, Vdg, Vrs, Vrv⟩
  rw [wp_bind]
  iapply (wp_first defs 𝒱 c bd b A v32 vds) $$ [HB V32 Vds Vdg Vga Vrv HO]
  · isplitl [HB]; · iexact HB
    isplitl [V32]; · iexact V32
    isplitl [Vds]; · iexact Vds
    isplitl [Vdg]; · iexact Vdg
    isplitl [Vga]; · iexact Vga
    isplitl [Vrv]; · iexact Vrv
    iexact HO
  iintro ⟨HB, HC, HS, HO⟩
  imod (outM_start c b A vc o2) $$ [Vc Ho2 HsO] with HM
  · isplitl [Vc]; · iexact Vc
    isplitl [Ho2]; · iexact Ho2
    iexact HsO
  rw [wp_bind]
  iapply (wp_mainLoop defs 𝒱 c bd b A vc o2) $$ [HB HC HS Vgi HM HO]
  · unfold MainS OutI
    isplitl [HB]; · iexact HB
    isplitl [HC]; · iexact HC
    isplitl [HS]; · iexact HS
    isplitl [Vgi]; · iexact Vgi
    isplitl [HM]; · iexact HM
    iexact HO
  unfold MainS
  rw [outI_succ c b A vc o2 58 (by omega), pend_all, done_all, inC_all]
  iintro ⟨-, ⟨Vx, Vdy, ⟨Hx, Hi0⟩, ⟨Hdy, Hi1⟩⟩, HS, Vgi, HW, HO⟩
  rw [wp_bind]
  iapply (wp_last defs 𝒱 c bd b A vc o2 vdo vam o1 o3 o4) $$ [HW HS Vgi Vdo Vam Vsc Ho1 Ho3 Ho4 Hs3 Hs4 Hs5]
  · isplitl [HW]; · iexact HW
    isplitl [HS]; · iexact HS
    isplitl [Vgi]; · iexact Vgi
    isplitl [Vdo]; · iexact Vdo
    isplitl [Vam]; · iexact Vam
    isplitl [Vsc]; · iexact Vsc
    isplitl [Ho1]; · iexact Ho1
    isplitl [Ho3]; · iexact Ho3
    isplitl [Ho4]; · iexact Ho4
    isplitl [Hs3]; · iexact Hs3
    isplitl [Hs4]; · iexact Hs4
    iexact Hs5
  iintro ⟨HB, HS, Vgi, HR⟩
  rw [wp_bind]
  iapply (wp_drainLoop defs 𝒱 c bd b A) $$ [HB HO]
  · isplitl [HB]; · iexact HB
    iexact HO
  unfold OutD
  rw [bigSep_sep', ← own_rows c b.ocodes, ← own_rows c b.codes]
  iintro ⟨⟨⟨Ho2, Vc⟩, HsO⟩, HO⟩
  iapply (wp_waitResults defs 𝒱 c bd b A) $$ [HR HO]
  · isplitl [HR]; · iexact HR
    iexact HO
  iintro ⟨⟨Ho1, Vdo, Hs3⟩, ⟨Ho3, Vsc, Hs4⟩, ⟨Ho4, Vam, Hs5⟩, HO⟩
  unfold StatR ResS
  icases HS with ⟨V32, Vds, Vdg, Vga, Vrv⟩
  iapply HQ
  isplitl [Hx Hdy Hga Hrs Hh]
  · isplitl [Hx]; · iexact Hx
    isplitl [Hdy]; · iexact Hdy
    isplitl [Hga]; · iexact Hga
    isplitl [Hrs]; · iexact Hrs
    iexact Hh
  isplitl [Ho1 Ho2 Ho3 Ho4]
  · isplitl [Ho1]; · iexact Ho1
    isplitl [Ho2]; · iexact Ho2
    isplitl [Ho3]; · iexact Ho3
    iexact Ho4
  isplitr [Hi0 Hi1 HsO Hs0 Hs1 Hs2 Hs3 Hs4 Hs5 HO]
  · isplitl [Vx]; · iexists _; iexact Vx
    isplitl [Vdy]; · iexists _; iexact Vdy
    isplitl [Vc]; · iexists _; iexact Vc
    isplitl [V32]; · iexists _; iexact V32
    isplitl [Vds]; · iexists _; iexact Vds
    isplitl [Vrv]; · iexists _; iexact Vrv
    isplitl [Vga]; · iexists _; iexact Vga
    isplitl [Vgi]; · iexists _; iexact Vgi
    isplitl [Vrs]; · iexists _; iexact Vrs
    isplitl [Vh]; · iexists _; iexact Vh
    isplitl [Vdg]; · iexists _; iexact Vdg
    isplitl [Vdo]; · iexists _; iexact Vdo
    isplitl [Vsc]; · iexists _; iexact Vsc
    iexists _; iexact Vam
  isplitr [HO]
  · isplitl [Hi0 Hi1]
    · isplitl [Hi0]; · iexact Hi0
      iexact Hi1
    isplitl [HsO]; · iexact HsO
    isplitl [Hs0]; · iexact Hs0
    isplitl [Hs1]; · iexact Hs1
    isplitl [Hs2]; · iexact Hs2
    isplitl [Hs3]; · iexact Hs3
    isplitl [Hs4]; · iexact Hs4
    iexact Hs5
  iexact HO

end Rms

end
-- ==== Proof.KernelLaunch.lean ====
/- The launch of the kernel: from any memory it runs to the end, its arguments as they were, its results at the values of `Rms.Args`, every
   semaphore counter at zero. -/
module

public import proofs.«01_k».proof.Proof.Gen.Kernel.Launch
public import proofs.«01_k».proof.Proof.Gen.Kernel.Frame
public import Idealize.ShloMosaic.Lib.Pipeline.KitQuiescent
public import proofs.«01_k».proof.Proof.KernelPlain
public import proofs.«01_k».proof.Proof.Body

@[expose] public section

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.Pipeline (Dat Cfg Window BodyObligation cellOf)

variable {F : FTy → Type} [FloatOps F]

local notation "𝕄" => MT nD τ sig Unit (Elt F) ℕ (Rms.UU sig nD τ) ℕ

/-- The kernel's buffers and semaphores, as it is launched with them. -/
abbrev bufs : Rms.Bufs sig where
  x := Memref.whole main_v0
  hx := Memref.isWhole_whole _
  dy := Memref.whole main_v1
  hdy := Memref.isWhole_whole _
  ga := Memref.whole main_v2
  hga := Memref.isWhole_whole _
  rs := Memref.whole main_arg3
  hrs := Memref.isWhole_whole _
  hist := Memref.whole main_v3
  hhist := Memref.isWhole_whole _
  odg := Memref.whole main_v4_0
  hodg := Memref.isWhole_whole _
  ocodes := Memref.whole main_v4_1
  hocodes := Memref.isWhole_whole _
  oscale := Memref.whole main_v4_2
  hoscale := Memref.isWhole_whole _
  oamax := Memref.whole main_v4_3
  hoamax := Memref.isWhole_whole _
  xv := Memref.whole cc0_scratch0
  hxv := Memref.isWhole_whole _
  dyv := Memref.whole cc0_scratch1
  hdyv := Memref.isWhole_whole _
  codes := Memref.whole cc0_scratch2
  hcodes := Memref.isWhole_whole _
  x32 := Memref.whole cc0_scratch3
  hx32 := Memref.isWhole_whole _
  dys := Memref.whole cc0_scratch4
  hdys := Memref.isWhole_whole _
  rv := Memref.whole cc0_scratch5
  hrv := Memref.isWhole_whole _
  gav := Memref.whole cc0_scratch6
  hgav := Memref.isWhole_whole _
  gi := Memref.whole cc0_scratch7
  hgi := Memref.isWhole_whole _
  rsv := Memref.whole cc0_scratch8
  hrsv := Memref.isWhole_whole _
  histv := Memref.whole cc0_scratch9
  hhistv := Memref.isWhole_whole _
  dg := Memref.whole cc0_scratch10
  hdg := Memref.isWhole_whole _
  dgo := Memref.whole cc0_scratch11
  hdgo := Memref.isWhole_whole _
  scale := Memref.whole cc0_scratch12
  hscale := Memref.isWhole_whole _
  amax := Memref.whole cc0_scratch13
  hamax := Memref.isWhole_whole _
  insem := cc0_scratch14
  outsem := cc0_scratch15
  smsem := cc0_scratch16

/-! ## The semaphores -/

theorem inSem0_eq : ∀ g : Fin 60, Rms.inSem bufs 0 g.val g.isLt = (⟨g.val, by omega⟩ : Fin 127) := by decide
theorem inSem1_eq : ∀ g : Fin 60, Rms.inSem bufs 1 g.val g.isLt = (⟨60 + g.val, by omega⟩ : Fin 127) := by decide
theorem outSem_eq : bufs.outsem.sem = (120 : Fin 127) := by decide
theorem smSem_eq : ∀ i : Fin 6, Rms.smSem bufs i = (⟨121 + i.val, by omega⟩ : Fin 127) := by decide

/-- The kernel's own semaphores. -/
abbrev osem : Fin 127 → SemLoc sig := fun i => .dma i
theorem ownSemFacts : Pipeline.OwnSemFacts (cfg0.spec) osem := by decide

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- The 127 semaphores: 60 of the copies of `x`, 60 of those of `dy`, and 7. -/
def split127 : (Fin 60 ⊕ Fin 60) ⊕ Fin 7 ≃ Fin 127 := (Equiv.sumCongr finSumFinEquiv (Equiv.refl _)).trans finSumFinEquiv

theorem ownSems0_eq (c : Dev nD) :
    (Pipeline.ownSems0 (Ix := Unit) (Name := ℕ) (U := Rms.UU sig nD τ) (Lvl := ℕ) (Val := Elt F) (τ := τ) osem c : sProp 𝕄) = Rms.SemS c bufs := by
  unfold Pipeline.ownSems0 Rms.SemS Rms.Sem0
  rw [bigSep_univ_equiv split127, bigSep_univ_sum, bigSep_univ_sum, bigSep_fin7]
  simp only [inSem0_eq, inSem1_eq, outSem_eq, smSem_eq]
  rfl

/-! ## The buffers -/

variable (A : Rms.Args F)

theorem pts_any {sp : Space} {s : Shape} {e : EltTy} (c : Dev nD) (m : Memref sig .tc sp s e) (hm : m.IsWhole) :
    (iprop(∃ f : Buf (Elt F) (m.view.loc (c : Thread nD τ)), m.view.loc (c : Thread nD τ) ↦{fullShare} f) : sProp 𝕄) ⊣⊢ Rms.Any c m := by
  unfold Rms.Any
  constructor
  · iintro ⟨%f, H⟩
    iexists _
    iapply (Entails.of_eq (Rms.own_of_pts c m hm fullShare f))
    iexact H
  · iintro ⟨%X, H⟩
    iexists (m.view.rep X)
    iapply (Entails.of_eq (Rms.own_pts c m hm fullShare X))
    iexact H

theorem pts_anyEq {sp : Space} {s : Shape} {e : EltTy} (c : Dev nD) (m : Memref sig .tc sp s e) (hm : m.IsWhole) :
    (iprop(∃ f : Buf (Elt F) (m.view.loc (c : Thread nD τ)), m.view.loc (c : Thread nD τ) ↦{fullShare} f) : sProp 𝕄) = Rms.Any c m :=
  equiv_iff.mp ⟨(pts_any c m hm).1, (pts_any c m hm).2⟩

theorem scopedRest_any (c : Dev nD) :
    (Pipeline.scopedRest (Ix := Unit) (Name := ℕ) (U := Rms.UU sig nD τ) (Lvl := ℕ) (Val := Elt F) (cfg0.spec) c : sProp 𝕄) = Rms.ScrA c bufs := by
  rw [scopedRest0_eq]
  unfold Rms.ScrA
  simp only [← pts_anyEq c _ bufs.hxv, ← pts_anyEq c _ bufs.hdyv, ← pts_anyEq c _ bufs.hcodes, ← pts_anyEq c _ bufs.hx32, ← pts_anyEq c _ bufs.hdys, ← pts_anyEq c _ bufs.hrv,
    ← pts_anyEq c _ bufs.hgav, ← pts_anyEq c _ bufs.hgi, ← pts_anyEq c _ bufs.hrsv, ← pts_anyEq c _ bufs.hhistv, ← pts_anyEq c _ bufs.hdg, ← pts_anyEq c _ bufs.hdgo,
    ← pts_anyEq c _ bufs.hscale, ← pts_anyEq c _ bufs.hamax]

theorem argS_eq (c : Dev nD) : (Rms.ArgS c bufs A : sProp 𝕄)
    = iprop((((c : Thread nD τ).loc main_v0) ↦{fullShare} A.X) ∗ (((c : Thread nD τ).loc main_v1) ↦{fullShare} A.DY) ∗ (((c : Thread nD τ).loc main_v2) ↦{fullShare} A.GA)
      ∗ (((c : Thread nD τ).loc main_arg3) ↦{fullShare} A.RS) ∗ (((c : Thread nD τ).loc main_v3) ↦{fullShare} A.H)) := by
  unfold Rms.ArgS
  rw [Rms.own_whole c main_v0 fullShare A.X, Rms.own_whole c main_v1 fullShare A.DY, Rms.own_whole c main_v2 fullShare A.GA,
    Rms.own_whole c main_arg3 fullShare A.RS, Rms.own_whole c main_v3 fullShare A.H]
theorem resS_eq (c : Dev nD) : (Rms.ResS c bufs A : sProp 𝕄)
    = iprop((((c : Thread nD τ).loc main_v4_0) ↦{fullShare} A.dgamma) ∗ (((c : Thread nD τ).loc main_v4_1) ↦{fullShare} A.codes)
      ∗ (((c : Thread nD τ).loc main_v4_2) ↦{fullShare} A.scale) ∗ (((c : Thread nD τ).loc main_v4_3) ↦{fullShare} A.amax)) := by
  unfold Rms.ResS
  rw [Rms.own_whole c main_v4_0 fullShare A.dgamma, Rms.own_whole c main_v4_1 fullShare A.codes, Rms.own_whole c main_v4_2 fullShare A.scale,
    Rms.own_whole c main_v4_3 fullShare A.amax]
theorem resA_eq (c : Dev nD) : (Rms.ResA c bufs : sProp 𝕄)
    = iprop((∃ f : Buf (Elt F) ((c : Thread nD τ).loc main_v4_0), ((c : Thread nD τ).loc main_v4_0) ↦{fullShare} f)
      ∗ (∃ f : Buf (Elt F) ((c : Thread nD τ).loc main_v4_1), ((c : Thread nD τ).loc main_v4_1) ↦{fullShare} f)
      ∗ (∃ f : Buf (Elt F) ((c : Thread nD τ).loc main_v4_2), ((c : Thread nD τ).loc main_v4_2) ↦{fullShare} f)
      ∗ (∃ f : Buf (Elt F) ((c : Thread nD τ).loc main_v4_3), ((c : Thread nD τ).loc main_v4_3) ↦{fullShare} f)) := by
  unfold Rms.ResA
  rw [← pts_anyEq c _ bufs.hodg, ← pts_anyEq c _ bufs.hocodes, ← pts_anyEq c _ bufs.hoscale, ← pts_anyEq c _ bufs.hoamax]

variable (m : (ℓ : Loc nD τ sig) → Buf (Elt F) ℓ) (ρ : Dev nD → PrngReg) (invd : F .f32)

/-- The kernel's arguments on core `c`, as the region finds them, with the number `invd` for 1/5120. -/
def args (c : Dev nD) : Rms.Args F where
  X := V m c main_v0
  DY := V m c main_v1
  GA := V m c main_v2
  RS := V m c main_arg3
  H := V m c main_v3
  invd := invd

/-- The arguments and results, before the kernel runs; -/
def Pre (c : Dev nD) : sProp 𝕄 := iprop(Rms.ArgS c bufs (args m invd c) ∗ Rms.ResA c bufs ∗ Rms.ScrA c bufs ∗ Rms.SemS c bufs)
/-- and after. -/
def Post (c : Dev nD) : sProp 𝕄 := iprop(Rms.ArgS c bufs (args m invd c) ∗ Rms.ResS c bufs (args m invd c) ∗ Rms.ScrA c bufs ∗ Rms.SemS c bufs)
/-- The host arrays that the kernel does not touch. -/
def Kept (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg4) ↦{fullShare} V m c main_arg4))

def dats (_ : Fin 1) (c : Dev nD) : Dat τ (Elt F) Unit ℕ (Rms.UU sig nD τ) ℕ cfg0 c where
  A w := w.elim0
  after w := w.elim0
  Φ t := if t.val = 0 then Pre m invd c else Post m invd c
  q _ := fullShare
  owed _ := 0

/-- The body table's entry is the kernel on its buffers, which is the plain program. -/
theorem prog_eq (hinv : invd = Scalar.ofBits .f32 0x394CCCCD#32) (t : Fin cfg0.N) :
    (defs₀ (F := F)) .tc cfg0.body (cfg0.bodyArgs t (cfg0.slots t)) = Rms.kern bufs invd := by
  subst hinv
  refine Eq.trans ?_ (body_eq bufs)
  show defs₀ (F := F) .tc cfg0.body (cfg0.bodyArgs t (cfg0.slots t)) = bodyAt0 t
  unfold defs₀; rw [Defs.onTc_tc]

theorem body_obligation (hinv : invd = Scalar.ofBits .f32 0x394CCCCD#32) (c : Dev nD) :
    BodyObligation (dats (F := F) m invd 0 c) (defs₀ (F := F)) Variants.none () Set.univ := fun t => by
  rw [prog_eq invd hinv t]
  have ht : t = t0_0 := fin_N0 t
  subst ht
  rw [show (dats m invd 0 c).Φ t0_0.castSucc = Pre m invd c from rfl, show (dats m invd 0 c).Φ t0_0.succ = Post m invd c from rfl]
  unfold Dat.owesAt Pipeline.owesWithin
  rw [show (dats m invd 0 c).owed t0_0.castSucc = 0 from rfl, show (dats m invd 0 c).owed t0_0.succ = 0 from rfl]
  unfold Pre Post
  iintro ⟨⟨HA, HR, HS, HM⟩, ⟨%W, -, HW⟩, Hw⟩
  iapply (Rms.wp_kern (defs₀ (F := F)) Variants.none c none bufs (args m invd c)) $$ [HA HR HS HM HW]
  · isplitl [HA]; · iexact HA
    isplitl [HR]; · iexact HR
    isplitl [HS]; · iexact HS
    isplitl [HM]; · iexact HM
    unfold Rms.Owes; iexists W; iexact HW
  iintro ⟨HA, HR, HS, HM, HO⟩
  isplitl [HA HR HS HM]
  · isplitl [HA]; · iexact HA
    isplitl [HR]; · iexact HR
    isplitl [HS]; · iexact HS
    iexact HM
  isplitl [HO]
  · unfold Rms.Owes
    icases HO with ⟨%W', HO⟩
    iexists W'; isplitr; · ipureintro; exact fun _ _ => Or.inl trivial
    iexact HO
  iexact Hw

/-! ## The run -/

def u₀ : Rms.UU sig nD τ := (initOf (Pipeline.cells cfgs cellOf_inj) (Pipeline.launchToks cfgs cellOf_inj), 1)
abbrev EP : Emb (UR sig nD τ) 𝕄 := embL

/-- What the final memory holds on core `c`. -/
def Ends (c : Dev nD) (s : MemSt nD τ sig (Elt F)) : Prop :=
  (s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_arg4) = V m c main_arg4)
  ∧ s.mem ((c : Thread nD τ).loc main_v4_0) = (args m invd c).dgamma ∧ s.mem ((c : Thread nD τ).loc main_v4_1) = (args m invd c).codes
    ∧ s.mem ((c : Thread nD τ).loc main_v4_2) = (args m invd c).scale ∧ s.mem ((c : Thread nD τ).loc main_v4_3) = (args m invd c).amax

theorem hmain : Pipeline.HMain (Ix := Unit) (Name := ℕ) (U := Rms.UU sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main (hinv : invd = Scalar.ofBits .f32 0x394CCCCD#32) :
    θ_run defs (onTc (τ := τ) (main (F := F))) ⟨m, fun _ => 0, ρ⟩ (fun r => (∀ c : Dev nD, Ends m invd c r.2) ∧ r.2.sem = fun _ => 0) :=
  Pipeline.θ_run_region_kit_quiescent cfgs (dats m invd) () (0 : Fin 1) launch0 ownSemFacts EP defs₀ Variants.none m ρ main
    (hbody := fun c => (body_obligation m invd hinv c).loose) (hshare := fun c => (dats m invd 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m) (hA := fun _ w => w.elim0)
    (X := fun c => iprop(Rms.ArgS c bufs (args m invd c) ∗ Rms.ResA c bufs ∗ Rms.SemS c bufs))
    (Y := fun c => iprop(Rms.ArgS c bufs (args m invd c) ∗ Rms.ResS c bufs (args m invd c))) (Z := Kept m)
    (hX := fun c => by
      rw [unscopedRest0_eq, ownSems0_eq]
      rw [argS_eq, resA_eq]
      unfold Kept
      dsimp only [args]
      iintro ⟨⟨H0, H1, H2, H3, H4, V0, V1, V2, V3, R0, R1, R2, R3⟩, HS, -, -, -⟩; imodintro
      isplitl [H3 V0 V1 V2 V3 R0 R1 R2 R3 HS]
      · isplitl [H3 V0 V1 V2 V3]
        · isplitl [V0]; · iexact V0
          isplitl [V1]; · iexact V1
          isplitl [V2]; · iexact V2
          isplitl [H3]; · iexact H3
          iexact V3
        isplitl [R0 R1 R2 R3]
        · isplitl [R0]; · iexists _; iexact R0
          isplitl [R1]; · iexists _; iexact R1
          isplitl [R2]; · iexists _; iexact R2
          iexists _; iexact R3
        iexact HS
      isplitl [H0]; · iexact H0
      isplitl [H1]; · iexact H1
      isplitl [H2]; · iexact H2
      iexact H4)
    (hin := fun c => by
      rw [scopedRest_any, show (dats m invd 0 c).Φ 0 = Pre m invd c from rfl]
      unfold Pre
      iintro ⟨⟨HA, HR, HM⟩, HS⟩
      isplitl [HA]; · iexact HA
      isplitl [HR]; · iexact HR
      isplitl [HS]; · iexact HS
      iexact HM)
    (hout := fun c => by
      rw [scopedRest_any, ownSems0_eq, show (dats m invd 0 c).Φ (Fin.last cfg0.N) = Post m invd c from rfl]
      unfold Post
      iintro ⟨HA, HR, HS, HM⟩
      isplitl [HA HR]
      · isplitl [HA]; · iexact HA
        iexact HR
      isplitl [HM]; · iexact HM
      iexact HS)
    (QY := Ends m invd)
    (hY := fun c s' => by
      rw [argS_eq, resS_eq]
      unfold Kept
      iintro ⟨⟨⟨-, -, -, H3, -⟩, R0, R1, R2, R3⟩, ⟨H0, H1, H2, H4⟩, HSI⟩
      icombine HSI H0 gives %h0
      icombine HSI H1 gives %h1
      icombine HSI H2 gives %h2
      icombine HSI H3 gives %h3
      icombine HSI H4 gives %h4
      icombine HSI R0 gives %r0
      icombine HSI R1 gives %r1
      icombine HSI R2 gives %r2
      icombine HSI R3 gives %r3
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4⟩,
          Buf.eq_of_forall_mem_univ r0, Buf.eq_of_forall_mem_univ r1, Buf.eq_of_forall_mem_univ r2, Buf.eq_of_forall_mem_univ r3⟩
      iexact HSI)
    (hQ := fun _ hh hz => ⟨fun c => (hh c).2, hz⟩)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1.1.trans (V_main_arg0 m c), (h.1 c).1.2.1.trans (V_main_arg1 m c), (h.1 c).1.2.2.1.trans (V_main_arg2 m c),
    (h.1 c).1.2.2.2.1.trans (V_main_arg3 m c), (h.1 c).1.2.2.2.2.trans (V_main_arg4 m c)⟩, h.2⟩) (run_main m ρ _ rfl)

end Cert.Kernel.Run

end
-- ==== Proof.KernelIdealPlain.lean ====
/- The idealized kernel's body is the program of `Plain`: its statements are those of the tiles and groups, in order. -/
module

public import proofs.«01_k».proof.KernelIdeal
public import proofs.«01_k».proof.Proof.Gen.KernelIdeal
public import proofs.«01_k».proof.Proof.Plain
public import Idealize.ShloMosaic.Lib.Pipeline.Regions

@[expose] public section

namespace Cert.KernelIdeal

open Idealize.ShloMosaic Idealize.SL.Sem

variable {F : FTy → Type} [FloatOps F] [Named F] [Facts]
variable (b : Rms.Bufs sig)

/-- The first statements of a trip of the main loop: the waits, the copy out, and the first tile's scaled gradient. -/
theorem part1_eq (k : Fin k0_t2_loop.trips) (coef : FVec F S32x128 .f32) :
    (k0_part1 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem 1#32 1#32 k coef : Prog (TpuEff nD τ sig (Elt F) Λ₀ .tc) _) = (do
      Rms.waitIn b (Rms.reg59 k).toNat (Rms.reg59_lt k) (Rms.rowW k) (Rms.rowW_ok k)
      (if h : Rms.cnd59 k = 1#1 then do
        Rms.startOut b (Rms.rowQ k) (Rms.rowQ_ok k h)
        pure ⟨⟩
      else do
        pure ⟨⟩ : Prog (TpuEff nD τ sig (Elt F) Λ₀ .tc) PUnit)
      let r : FVec F S32x128 .f32 ← Rms.ld b.rv ![Rms.rowR k, 0] S32x128.size (Rms.inb_r (Rms.rowR_ok k)) Rms.n32x128
      let dys : FVec F S32x128 .f32 ← Rms.ld b.dys ![0, 0] S32x128.size (Rms.inb_32 0) Rms.n32x128
      let gi : FVec F S1x128 .f32 ← Rms.ld b.gi ![0, 0] S1x128.size (Rms.inb_1 0) Rms.n1x128
      let x32 : FVec F S32x128 .f32 ← Rms.ld b.x32 ![0, 0] S32x128.size (Rms.inb_32 0) Rms.n32x128
      pure ⟨Scalar.muli (Rms.reg59 k) 32#32, Scalar.muli (Scalar.subi (Rms.reg59 k) 1#32) 32#32, r, Rms.wT dys gi x32 coef, Rms.codeT (Rms.wT dys gi x32 coef)⟩) := by
  unfold k0_part1 Rms.waitIn
  dsimp only [Prog.bind_lift, Prog.bind_op, Prog.bind_ret, Prog.pure_eq_ret, bind, Prog.bind, Prog.lift, pure]
  refine congrArg₂ Prog.op ?_ ?_
  · chain_rfl
  funext _
  refine congrArg₂ Prog.op ?_ ?_
  · chain_rfl
  funext _
  by_cases h : Rms.cnd59 k = 1#1
  · rw [dif_pos (show k0_cond1 k = 1#1 from h), dif_pos h]; chain_rfl
  · rw [dif_neg (show ¬ k0_cond1 k = 1#1 from h), dif_neg h]; chain_rfl

/-- A trip of the main loop. -/
theorem trip_eq (invd : F .f32) (inv : FVec F S1x1 .f32) (k : Fin k0_t2_loop.trips) (c : FVec F S32x128 .f32 × Rms.M4 F) (hd : invd = Named.named κ "inv_d" 0x394CCCCD#32) :
    ((do
      let ⟨v4616, v4618, v4620, v4622, v4656, v4657⟩ ← k0_part55 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem 1#32 1#32 k c.1 c.2.1 c.2.2.1 c.2.2.2.1 c.2.2.2.2
      have v4658 : FVec F S32x1 .f32 := broadcastTo S32x1 inv Rms.bOneCol
      have v4659 : FVec F S32x1 .f32 := mulf v4656 v4658
      have v4660 : FVec F S32x128 .f32 := broadcastTo S32x128 v4659 Rms.bCol
      have v4661 : FVec F S32x128 .f32 := mulf v4657 v4660
      pure (v4661, v4616, v4618, v4620, v4622)) : Prog (TpuEff nD τ sig (Elt F) Λ₀ .tc) (FVec F S32x128 .f32 × Rms.M4 F))
    = Rms.trip b invd inv (Rms.reg59 k).toNat (Rms.reg59_lt k) (Rms.rowW k) (Rms.rowW_ok k) (Rms.cnd59 k) (Rms.rowQ k) (Rms.rowQ_ok k) (Rms.rowP k) (Rms.rowP_ok k) (Rms.rowR k) (Rms.rowR_ok k) c := by
  subst hd
  rw [k0_part55, part1_eq]
  unfold Rms.trip
  simp only [Prog.bind_assoc]
  chain_rfl

/-- The main loop as printed is the main loop of `Plain`. -/
theorem loop_eq (inv : FVec F S1x1 .f32) :
    (Rms.mainLoop b (Named.named κ "inv_d" 0x394CCCCD#32) inv : FVec F S32x128 .f32 → Prog (TpuEff nD τ sig (Elt F) Λ₀ .tc) (FVec F S32x128 .f32 × Rms.M4 F)) =
      fun coef => Scf.Loop.for k0_t2_loop Facts₀.k0_t2_ok (coef, Rms.max0) fun k c => (do
        let ⟨v4616, v4618, v4620, v4622, v4656, v4657⟩ ← k0_part55 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem 1#32 1#32 k c.1 c.2.1 c.2.2.1 c.2.2.2.1 c.2.2.2.2
        have v4658 : FVec F S32x1 .f32 := broadcastTo S32x1 inv Rms.bOneCol
        have v4659 : FVec F S32x1 .f32 := mulf v4656 v4658
        have v4660 : FVec F S32x128 .f32 := broadcastTo S32x128 v4659 Rms.bCol
        have v4661 : FVec F S32x128 .f32 := mulf v4657 v4660
        pure (v4661, v4616, v4618, v4620, v4622)) := by
  funext coef
  unfold Rms.mainLoop
  refine congrArg (fun f => Scf.Loop.for k0_t2_loop Facts₀.k0_t2_ok (coef, Rms.max0) f) ?_
  funext k c
  exact (trip_eq b _ inv k c rfl).symm

/-- The statements up to the first values of the scale. -/
theorem part56_eq : (k0_part56 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem : Prog (TpuEff nD τ sig (Elt F) Λ₀ .tc) _) = (do
      Rms.startSmall b
      Rms.startLoop b
      Rms.waitSmall b
      let h : FVec F S1x16 .f32 ← Rms.ld b.histv ![0, 0] S1x16.size Rms.inb_zero Rms.n1x16
      pure ⟨Rms.biasedV h, cmpi .eq (Rms.biasedV h) (broadcast S1x1 0#32), 255#32⟩) := by
  chain_rfl

/-- The statements around the main loop. -/
theorem part91_eq (inv : FVec F S1x1 .f32) (r acc q : FVec F S32x128 .f32) (p : FVec F S8x128 .f32) :
    (k0_part91 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem inv r acc q p : Prog (TpuEff nD τ sig (Elt F) Λ₀ .tc) _) = (do
      let d : FVec F S8x128 .f32 ← Rms.ld b.dg ![0, 4992] S8x128.size (Rms.inb_8 39) Rms.n8x128
      let _ ← Rms.ld b.dg ![0, 4992] S8x128.size (Rms.inb_8 39) Rms.n8x128
      Rms.st b.dg ![0, 4992] S8x128.size (Rms.inb_8 39) Rms.n8x128 (shapeCast S8x128 (addf d p) (Rms.casts _))
      let ga : FVec F S1x128 .f32 ← Rms.ld b.gav ![0, 4992] S1x128.size (Rms.inb_1 39) Rms.n1x128
      let c ← Rms.mainLoop b (Named.named κ "inv_d" 0x394CCCCD#32) inv (Rms.coefT (Named.named κ "inv_d" 0x394CCCCD#32) inv r (Rms.accT 39 acc q ga))
      Rms.startOut b 1856 (by decide)
      let dys : FVec F S32x128 .f32 ← Rms.ld b.dys ![0, 0] S32x128.size (Rms.inb_32 0) Rms.n32x128
      let gi : FVec F S1x128 .f32 ← Rms.ld b.gi ![0, 0] S1x128.size (Rms.inb_1 0) Rms.n1x128
      let x32 : FVec F S32x128 .f32 ← Rms.ld b.x32 ![0, 0] S32x128.size (Rms.inb_32 0) Rms.n32x128
      pure ⟨c.1, c.2.1, c.2.2.1, c.2.2.2.1, c.2.2.2.2, 1888#32, mulf dys (broadcastTo S32x128 gi Rms.bLane), mulf x32 c.1⟩) := by
  rw [loop_eq]
  chain_rfl

/-- The last statements of the body's main part: the small results, their copies out, and the loop that drains. -/
theorem part115_eq (sc : FVec F S1x1 .f32) (m0 m1 m2 m3 : FVec F S8x128 .f32) (w : FVec F S32x128 .f32) :
    (k0_part115 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem sc m0 m1 m2 m3 w : Prog (TpuEff nD τ sig (Elt F) Λ₀ .tc) PUnit) = (do
      let d : FVec F S8x5120 .f32 ← Rms.ld b.dg ![0, 0] S8x5120.size Rms.inb_zero Rms.n8x5120
      let _ ← Rms.ld b.dgo ![0, 0] S1x5120.size Rms.inb_zero Rms.n1x5120
      Rms.st b.dgo ![0, 0] S1x5120.size Rms.inb_zero Rms.n1x5120 (shapeCast S1x5120 (Rms.dgV d) (Rms.casts _))
      let _ ← Rms.ld b.amax ![0, 0] S1x1.size Rms.inb_zero Rms.n1x1
      Rms.st b.amax ![0, 0] S1x1.size Rms.inb_zero Rms.n1x1 (shapeCast S1x1 (Rms.amaxV sc
        (maximumf m0 (extractStridedSlice S8x128 ![0, 0] w Rms.sl0), maximumf m1 (extractStridedSlice S8x128 ![8, 0] w Rms.sl8),
          maximumf m2 (extractStridedSlice S8x128 ![16, 0] w Rms.sl16), maximumf m3 (extractStridedSlice S8x128 ![24, 0] w Rms.sl24))) (Rms.casts _))
      Rms.startOut b 1888 (by decide)
      Prog.lift (.enqueueDma b.dgo (.here b.odg) (.dma (Rms.smSem b 3)) b.hdgo.wordExact b.hodg.wordExact ⟨Or.inl rfl, trivial⟩)
      Prog.lift (.enqueueDma b.scale (.here b.oscale) (.dma (Rms.smSem b 4)) b.hscale.wordExact b.hoscale.wordExact ⟨Or.inl rfl, trivial⟩)
      Prog.lift (.enqueueDma b.amax (.here b.oamax) (.dma (Rms.smSem b 5)) b.hamax.wordExact b.hoamax.wordExact ⟨Or.inl rfl, trivial⟩)
      Rms.drainLoop b
      pure ⟨⟩) := by
  chain_rfl

/-- The body is the program of `Plain`. -/
theorem body_eq : (cc0_rmsnorm_bwd_e5m2 b.x b.hx b.dy b.hdy b.ga b.hga b.rs b.hrs b.hist b.hhist b.odg b.hodg b.ocodes b.hocodes b.oscale b.hoscale b.oamax b.hoamax b.xv b.hxv b.dyv b.hdyv b.codes b.hcodes b.x32 b.hx32 b.dys b.hdys b.rv b.hrv b.gav b.hgav b.gi b.hgi b.rsv b.hrsv b.histv b.hhistv b.dg b.hdg b.dgo b.hdgo b.scale b.hscale b.amax b.hamax b.insem b.outsem b.smsem : Prog (TpuEff nD τ sig (Elt F) Λ₀ .tc) PUnit) = Rms.kern b (Named.named κ "inv_d" 0x394CCCCD#32) := by
  unfold cc0_rmsnorm_bwd_e5m2 k0_part116
  rw [part56_eq]
  simp only [part91_eq, part115_eq]
  unfold Rms.kern Rms.first Rms.last
  simp only [Prog.bind_assoc]
  chain_rfl

end Cert.KernelIdeal

end
-- ==== Proof.KernelIdealLaunch.lean ====
/- The launch of the ideal kernel: from any memory it runs to the end, its arguments as they were, its results at the values of `Rms.Args`, every
   semaphore counter at zero. -/
module

public import proofs.«01_k».proof.Proof.Gen.KernelIdeal.Launch
public import proofs.«01_k».proof.Proof.Gen.KernelIdeal.Frame
public import Idealize.ShloMosaic.Lib.Pipeline.KitQuiescent
public import proofs.«01_k».proof.Proof.KernelIdealPlain
public import proofs.«01_k».proof.Proof.Body

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers
open Idealize.ShloMosaic.Rounds
open Idealize.ShloMosaic.Pipeline (Dat Cfg Window BodyObligation cellOf)

variable {F : FTy → Type} [FloatOps F] [Named F]

local notation "𝕄" => MT nD τ sig Unit (Elt F) ℕ (Rms.UU sig nD τ) ℕ

/-- The kernel's buffers and semaphores, as it is launched with them. -/
abbrev bufs : Rms.Bufs sig where
  x := Memref.whole main_v0
  hx := Memref.isWhole_whole _
  dy := Memref.whole main_v1
  hdy := Memref.isWhole_whole _
  ga := Memref.whole main_v2
  hga := Memref.isWhole_whole _
  rs := Memref.whole main_arg3
  hrs := Memref.isWhole_whole _
  hist := Memref.whole main_v3
  hhist := Memref.isWhole_whole _
  odg := Memref.whole main_v4_0
  hodg := Memref.isWhole_whole _
  ocodes := Memref.whole main_v4_1
  hocodes := Memref.isWhole_whole _
  oscale := Memref.whole main_v4_2
  hoscale := Memref.isWhole_whole _
  oamax := Memref.whole main_v4_3
  hoamax := Memref.isWhole_whole _
  xv := Memref.whole cc0_scratch0
  hxv := Memref.isWhole_whole _
  dyv := Memref.whole cc0_scratch1
  hdyv := Memref.isWhole_whole _
  codes := Memref.whole cc0_scratch2
  hcodes := Memref.isWhole_whole _
  x32 := Memref.whole cc0_scratch3
  hx32 := Memref.isWhole_whole _
  dys := Memref.whole cc0_scratch4
  hdys := Memref.isWhole_whole _
  rv := Memref.whole cc0_scratch5
  hrv := Memref.isWhole_whole _
  gav := Memref.whole cc0_scratch6
  hgav := Memref.isWhole_whole _
  gi := Memref.whole cc0_scratch7
  hgi := Memref.isWhole_whole _
  rsv := Memref.whole cc0_scratch8
  hrsv := Memref.isWhole_whole _
  histv := Memref.whole cc0_scratch9
  hhistv := Memref.isWhole_whole _
  dg := Memref.whole cc0_scratch10
  hdg := Memref.isWhole_whole _
  dgo := Memref.whole cc0_scratch11
  hdgo := Memref.isWhole_whole _
  scale := Memref.whole cc0_scratch12
  hscale := Memref.isWhole_whole _
  amax := Memref.whole cc0_scratch13
  hamax := Memref.isWhole_whole _
  insem := cc0_scratch14
  outsem := cc0_scratch15
  smsem := cc0_scratch16

/-! ## The semaphores -/

theorem inSem0_eq : ∀ g : Fin 60, Rms.inSem bufs 0 g.val g.isLt = (⟨g.val, by omega⟩ : Fin 127) := by decide
theorem inSem1_eq : ∀ g : Fin 60, Rms.inSem bufs 1 g.val g.isLt = (⟨60 + g.val, by omega⟩ : Fin 127) := by decide
theorem outSem_eq : bufs.outsem.sem = (120 : Fin 127) := by decide
theorem smSem_eq : ∀ i : Fin 6, Rms.smSem bufs i = (⟨121 + i.val, by omega⟩ : Fin 127) := by decide

/-- The kernel's own semaphores. -/
abbrev osem : Fin 127 → SemLoc sig := fun i => .dma i
theorem ownSemFacts : Pipeline.OwnSemFacts (cfg0.spec) osem := by decide

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [(0 : Fin 7), 1, 2, 3, 4, 5, 6] (by decide) (by decide) Φ

/-- The 127 semaphores: 60 of the copies of `x`, 60 of those of `dy`, and 7. -/
def split127 : (Fin 60 ⊕ Fin 60) ⊕ Fin 7 ≃ Fin 127 := (Equiv.sumCongr finSumFinEquiv (Equiv.refl _)).trans finSumFinEquiv

theorem ownSems0_eq (c : Dev nD) :
    (Pipeline.ownSems0 (Ix := Unit) (Name := ℕ) (U := Rms.UU sig nD τ) (Lvl := ℕ) (Val := Elt F) (τ := τ) osem c : sProp 𝕄) = Rms.SemS c bufs := by
  unfold Pipeline.ownSems0 Rms.SemS Rms.Sem0
  rw [bigSep_univ_equiv split127, bigSep_univ_sum, bigSep_univ_sum, bigSep_fin7]
  simp only [inSem0_eq, inSem1_eq, outSem_eq, smSem_eq]
  rfl

/-! ## The buffers -/

variable (A : Rms.Args F)

theorem pts_any {sp : Space} {s : Shape} {e : EltTy} (c : Dev nD) (m : Memref sig .tc sp s e) (hm : m.IsWhole) :
    (iprop(∃ f : Buf (Elt F) (m.view.loc (c : Thread nD τ)), m.view.loc (c : Thread nD τ) ↦{fullShare} f) : sProp 𝕄) ⊣⊢ Rms.Any c m := by
  unfold Rms.Any
  constructor
  · iintro ⟨%f, H⟩
    iexists _
    iapply (Entails.of_eq (Rms.own_of_pts c m hm fullShare f))
    iexact H
  · iintro ⟨%X, H⟩
    iexists (m.view.rep X)
    iapply (Entails.of_eq (Rms.own_pts c m hm fullShare X))
    iexact H

theorem pts_anyEq {sp : Space} {s : Shape} {e : EltTy} (c : Dev nD) (m : Memref sig .tc sp s e) (hm : m.IsWhole) :
    (iprop(∃ f : Buf (Elt F) (m.view.loc (c : Thread nD τ)), m.view.loc (c : Thread nD τ) ↦{fullShare} f) : sProp 𝕄) = Rms.Any c m :=
  equiv_iff.mp ⟨(pts_any c m hm).1, (pts_any c m hm).2⟩

theorem scopedRest_any (c : Dev nD) :
    (Pipeline.scopedRest (Ix := Unit) (Name := ℕ) (U := Rms.UU sig nD τ) (Lvl := ℕ) (Val := Elt F) (cfg0.spec) c : sProp 𝕄) = Rms.ScrA c bufs := by
  rw [scopedRest0_eq]
  unfold Rms.ScrA
  simp only [← pts_anyEq c _ bufs.hxv, ← pts_anyEq c _ bufs.hdyv, ← pts_anyEq c _ bufs.hcodes, ← pts_anyEq c _ bufs.hx32, ← pts_anyEq c _ bufs.hdys, ← pts_anyEq c _ bufs.hrv,
    ← pts_anyEq c _ bufs.hgav, ← pts_anyEq c _ bufs.hgi, ← pts_anyEq c _ bufs.hrsv, ← pts_anyEq c _ bufs.hhistv, ← pts_anyEq c _ bufs.hdg, ← pts_anyEq c _ bufs.hdgo,
    ← pts_anyEq c _ bufs.hscale, ← pts_anyEq c _ bufs.hamax]

theorem argS_eq (c : Dev nD) : (Rms.ArgS c bufs A : sProp 𝕄)
    = iprop((((c : Thread nD τ).loc main_v0) ↦{fullShare} A.X) ∗ (((c : Thread nD τ).loc main_v1) ↦{fullShare} A.DY) ∗ (((c : Thread nD τ).loc main_v2) ↦{fullShare} A.GA)
      ∗ (((c : Thread nD τ).loc main_arg3) ↦{fullShare} A.RS) ∗ (((c : Thread nD τ).loc main_v3) ↦{fullShare} A.H)) := by
  unfold Rms.ArgS
  rw [Rms.own_whole c main_v0 fullShare A.X, Rms.own_whole c main_v1 fullShare A.DY, Rms.own_whole c main_v2 fullShare A.GA,
    Rms.own_whole c main_arg3 fullShare A.RS, Rms.own_whole c main_v3 fullShare A.H]
theorem resS_eq (c : Dev nD) : (Rms.ResS c bufs A : sProp 𝕄)
    = iprop((((c : Thread nD τ).loc main_v4_0) ↦{fullShare} A.dgamma) ∗ (((c : Thread nD τ).loc main_v4_1) ↦{fullShare} A.codes)
      ∗ (((c : Thread nD τ).loc main_v4_2) ↦{fullShare} A.scale) ∗ (((c : Thread nD τ).loc main_v4_3) ↦{fullShare} A.amax)) := by
  unfold Rms.ResS
  rw [Rms.own_whole c main_v4_0 fullShare A.dgamma, Rms.own_whole c main_v4_1 fullShare A.codes, Rms.own_whole c main_v4_2 fullShare A.scale,
    Rms.own_whole c main_v4_3 fullShare A.amax]
theorem resA_eq (c : Dev nD) : (Rms.ResA c bufs : sProp 𝕄)
    = iprop((∃ f : Buf (Elt F) ((c : Thread nD τ).loc main_v4_0), ((c : Thread nD τ).loc main_v4_0) ↦{fullShare} f)
      ∗ (∃ f : Buf (Elt F) ((c : Thread nD τ).loc main_v4_1), ((c : Thread nD τ).loc main_v4_1) ↦{fullShare} f)
      ∗ (∃ f : Buf (Elt F) ((c : Thread nD τ).loc main_v4_2), ((c : Thread nD τ).loc main_v4_2) ↦{fullShare} f)
      ∗ (∃ f : Buf (Elt F) ((c : Thread nD τ).loc main_v4_3), ((c : Thread nD τ).loc main_v4_3) ↦{fullShare} f)) := by
  unfold Rms.ResA
  rw [← pts_anyEq c _ bufs.hodg, ← pts_anyEq c _ bufs.hocodes, ← pts_anyEq c _ bufs.hoscale, ← pts_anyEq c _ bufs.hoamax]

variable (m : (ℓ : Loc nD τ sig) → Buf (Elt F) ℓ) (ρ : Dev nD → PrngReg) (invd : F .f32)

/-- The kernel's arguments on core `c`, as the region finds them, with the number `invd` for 1/5120. -/
def args (c : Dev nD) : Rms.Args F where
  X := V m c main_v0
  DY := V m c main_v1
  GA := V m c main_v2
  RS := V m c main_arg3
  H := V m c main_v3
  invd := invd

/-- The arguments and results, before the kernel runs; -/
def Pre (c : Dev nD) : sProp 𝕄 := iprop(Rms.ArgS c bufs (args m invd c) ∗ Rms.ResA c bufs ∗ Rms.ScrA c bufs ∗ Rms.SemS c bufs)
/-- and after. -/
def Post (c : Dev nD) : sProp 𝕄 := iprop(Rms.ArgS c bufs (args m invd c) ∗ Rms.ResS c bufs (args m invd c) ∗ Rms.ScrA c bufs ∗ Rms.SemS c bufs)
/-- The host arrays that the kernel does not touch. -/
def Kept (c : Dev nD) : sProp 𝕄 :=
  iprop((((c : Thread nD τ).loc main_arg0) ↦{fullShare} V m c main_arg0) ∗ (((c : Thread nD τ).loc main_arg1) ↦{fullShare} V m c main_arg1)
    ∗ (((c : Thread nD τ).loc main_arg2) ↦{fullShare} V m c main_arg2) ∗ (((c : Thread nD τ).loc main_arg4) ↦{fullShare} V m c main_arg4))

def dats (_ : Fin 1) (c : Dev nD) : Dat τ (Elt F) Unit ℕ (Rms.UU sig nD τ) ℕ cfg0 c where
  A w := w.elim0
  after w := w.elim0
  Φ t := if t.val = 0 then Pre m invd c else Post m invd c
  q _ := fullShare
  owed _ := 0

/-- The body table's entry is the kernel on its buffers, which is the plain program. -/
theorem prog_eq (hinv : invd = Named.named κ "inv_d" 0x394CCCCD#32) (t : Fin cfg0.N) :
    (defs₀ (F := F)) .tc cfg0.body (cfg0.bodyArgs t (cfg0.slots t)) = Rms.kern bufs invd := by
  subst hinv
  refine Eq.trans ?_ (body_eq bufs)
  show defs₀ (F := F) .tc cfg0.body (cfg0.bodyArgs t (cfg0.slots t)) = bodyAt0 t
  unfold defs₀; rw [Defs.onTc_tc]

theorem body_obligation (hinv : invd = Named.named κ "inv_d" 0x394CCCCD#32) (c : Dev nD) :
    BodyObligation (dats (F := F) m invd 0 c) (defs₀ (F := F)) Variants.none () Set.univ := fun t => by
  rw [prog_eq invd hinv t]
  have ht : t = t0_0 := fin_N0 t
  subst ht
  rw [show (dats m invd 0 c).Φ t0_0.castSucc = Pre m invd c from rfl, show (dats m invd 0 c).Φ t0_0.succ = Post m invd c from rfl]
  unfold Dat.owesAt Pipeline.owesWithin
  rw [show (dats m invd 0 c).owed t0_0.castSucc = 0 from rfl, show (dats m invd 0 c).owed t0_0.succ = 0 from rfl]
  unfold Pre Post
  iintro ⟨⟨HA, HR, HS, HM⟩, ⟨%W, -, HW⟩, Hw⟩
  iapply (Rms.wp_kern (defs₀ (F := F)) Variants.none c none bufs (args m invd c)) $$ [HA HR HS HM HW]
  · isplitl [HA]; · iexact HA
    isplitl [HR]; · iexact HR
    isplitl [HS]; · iexact HS
    isplitl [HM]; · iexact HM
    unfold Rms.Owes; iexists W; iexact HW
  iintro ⟨HA, HR, HS, HM, HO⟩
  isplitl [HA HR HS HM]
  · isplitl [HA]; · iexact HA
    isplitl [HR]; · iexact HR
    isplitl [HS]; · iexact HS
    iexact HM
  isplitl [HO]
  · unfold Rms.Owes
    icases HO with ⟨%W', HO⟩
    iexists W'; isplitr; · ipureintro; exact fun _ _ => Or.inl trivial
    iexact HO
  iexact Hw

/-! ## The run -/

def u₀ : Rms.UU sig nD τ := (initOf (Pipeline.cells cfgs cellOf_inj) (Pipeline.launchToks cfgs cellOf_inj), 1)
abbrev EP : Emb (UR sig nD τ) 𝕄 := embL

/-- What the final memory holds on core `c`. -/
def Ends (c : Dev nD) (s : MemSt nD τ sig (Elt F)) : Prop :=
  (s.mem ((c : Thread nD τ).loc main_arg0) = V m c main_arg0 ∧ s.mem ((c : Thread nD τ).loc main_arg1) = V m c main_arg1
    ∧ s.mem ((c : Thread nD τ).loc main_arg2) = V m c main_arg2 ∧ s.mem ((c : Thread nD τ).loc main_arg3) = V m c main_arg3
    ∧ s.mem ((c : Thread nD τ).loc main_arg4) = V m c main_arg4)
  ∧ s.mem ((c : Thread nD τ).loc main_v4_0) = (args m invd c).dgamma ∧ s.mem ((c : Thread nD τ).loc main_v4_1) = (args m invd c).codes
    ∧ s.mem ((c : Thread nD τ).loc main_v4_2) = (args m invd c).scale ∧ s.mem ((c : Thread nD τ).loc main_v4_3) = (args m invd c).amax

theorem hmain : Pipeline.HMain (Ix := Unit) (Name := ℕ) (U := Rms.UU sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
theorem run_main (hinv : invd = Named.named κ "inv_d" 0x394CCCCD#32) :
    θ_run defs (onTc (τ := τ) (main (F := F))) ⟨m, fun _ => 0, ρ⟩ (fun r => (∀ c : Dev nD, Ends m invd c r.2) ∧ r.2.sem = fun _ => 0) :=
  Pipeline.θ_run_region_kit_quiescent cfgs (dats m invd) () (0 : Fin 1) launch0 ownSemFacts EP defs₀ Variants.none m ρ main
    (hbody := fun c => (body_obligation m invd hinv c).loose) (hshare := fun c => (dats m invd 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain m) (hA := fun _ w => w.elim0)
    (X := fun c => iprop(Rms.ArgS c bufs (args m invd c) ∗ Rms.ResA c bufs ∗ Rms.SemS c bufs))
    (Y := fun c => iprop(Rms.ArgS c bufs (args m invd c) ∗ Rms.ResS c bufs (args m invd c))) (Z := Kept m)
    (hX := fun c => by
      rw [unscopedRest0_eq, ownSems0_eq]
      rw [argS_eq, resA_eq]
      unfold Kept
      dsimp only [args]
      iintro ⟨⟨H0, H1, H2, H3, H4, V0, V1, V2, V3, R0, R1, R2, R3⟩, HS, -, -, -⟩; imodintro
      isplitl [H3 V0 V1 V2 V3 R0 R1 R2 R3 HS]
      · isplitl [H3 V0 V1 V2 V3]
        · isplitl [V0]; · iexact V0
          isplitl [V1]; · iexact V1
          isplitl [V2]; · iexact V2
          isplitl [H3]; · iexact H3
          iexact V3
        isplitl [R0 R1 R2 R3]
        · isplitl [R0]; · iexists _; iexact R0
          isplitl [R1]; · iexists _; iexact R1
          isplitl [R2]; · iexists _; iexact R2
          iexists _; iexact R3
        iexact HS
      isplitl [H0]; · iexact H0
      isplitl [H1]; · iexact H1
      isplitl [H2]; · iexact H2
      iexact H4)
    (hin := fun c => by
      rw [scopedRest_any, show (dats m invd 0 c).Φ 0 = Pre m invd c from rfl]
      unfold Pre
      iintro ⟨⟨HA, HR, HM⟩, HS⟩
      isplitl [HA]; · iexact HA
      isplitl [HR]; · iexact HR
      isplitl [HS]; · iexact HS
      iexact HM)
    (hout := fun c => by
      rw [scopedRest_any, ownSems0_eq, show (dats m invd 0 c).Φ (Fin.last cfg0.N) = Post m invd c from rfl]
      unfold Post
      iintro ⟨HA, HR, HS, HM⟩
      isplitl [HA HR]
      · isplitl [HA]; · iexact HA
        iexact HR
      isplitl [HM]; · iexact HM
      iexact HS)
    (QY := Ends m invd)
    (hY := fun c s' => by
      rw [argS_eq, resS_eq]
      unfold Kept
      iintro ⟨⟨⟨-, -, -, H3, -⟩, R0, R1, R2, R3⟩, ⟨H0, H1, H2, H4⟩, HSI⟩
      icombine HSI H0 gives %h0
      icombine HSI H1 gives %h1
      icombine HSI H2 gives %h2
      icombine HSI H3 gives %h3
      icombine HSI H4 gives %h4
      icombine HSI R0 gives %r0
      icombine HSI R1 gives %r1
      icombine HSI R2 gives %r2
      icombine HSI R3 gives %r3
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4⟩,
          Buf.eq_of_forall_mem_univ r0, Buf.eq_of_forall_mem_univ r1, Buf.eq_of_forall_mem_univ r2, Buf.eq_of_forall_mem_univ r3⟩
      iexact HSI)
    (hQ := fun _ hh hz => ⟨fun c => (hh c).2, hz⟩)

/-- The arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1.1.trans (V_main_arg0 m c), (h.1 c).1.2.1.trans (V_main_arg1 m c), (h.1 c).1.2.2.1.trans (V_main_arg2 m c),
    (h.1 c).1.2.2.2.1.trans (V_main_arg3 m c), (h.1 c).1.2.2.2.2.trans (V_main_arg4 m c)⟩, h.2⟩) (run_main m ρ _ rfl)

end Cert.KernelIdeal.Run

end
-- ==== Proof.RefRun.lean ====
/- The reference's run with its four results named: each output array holds what the body's one store leaves, as a
   function of the five staged arrays. -/
module

public import proofs.«01_k».proof.Proof.Gen.ReferenceIdeal.Frame
public import Idealize.ShloMosaic.Lib.Pipeline.Value
public import Idealize.ShloMosaic.Lib.Pipeline.ValueKit

@[expose] public section

noncomputable section

namespace Cert.ReferenceIdeal.Run

open Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

theorem zero2 : (![0, 0] : Fin 2 → ℕ) = fun _ => 0 := funext fun a => by fin_cases a <;> rfl

theorem ld0 (X : Vec F S1920x5120 .bf16) : View.ld X r0_0 = X := View.ld_unit_zero (S := S1920x5120) zero2 _ X
theorem ld1 (X : Vec F S1x5120 .f32) : View.ld X r0_1 = X := View.ld_unit_zero (S := S1x5120) zero2 _ X
theorem ld2 (X : Vec F S1920x1 .f32) : View.ld X r0_2 = X := View.ld_unit_zero (S := S1920x1) zero2 _ X
theorem ld3 (X : Vec F S1x16 .f32) : View.ld X r0_3 = X := View.ld_unit_zero (S := S1x16) zero2 _ X

/-- Window 0's one block is its array. -/
theorem iblk0 (c : Dev nD) (t : Fin cfg0.N) : iblk m c 0 t = V m c main_v0 :=
  Memref.read_access_unit_zero (Elt F) main_v0 (funext fun a => by fin_cases a <;> fin_cases t <;> decide) (fun a => by fin_cases a <;> fin_cases t <;> decide) _
/-- Window 1's one block is its array. -/
theorem iblk1 (c : Dev nD) (t : Fin cfg0.N) : iblk m c 1 t = V m c main_v1 :=
  Memref.read_access_unit_zero (Elt F) main_v1 (funext fun a => by fin_cases a <;> fin_cases t <;> decide) (fun a => by fin_cases a <;> fin_cases t <;> decide) _
/-- Window 2's one block is its array. -/
theorem iblk2 (c : Dev nD) (t : Fin cfg0.N) : iblk m c 2 t = V m c main_v2 :=
  Memref.read_access_unit_zero (Elt F) main_v2 (funext fun a => by fin_cases a <;> fin_cases t <;> decide) (fun a => by fin_cases a <;> fin_cases t <;> decide) _
/-- Window 3's one block is its array. -/
theorem iblk3 (c : Dev nD) (t : Fin cfg0.N) : iblk m c 3 t = V m c main_v3 :=
  Memref.read_access_unit_zero (Elt F) main_v3 (funext fun a => by fin_cases a <;> fin_cases t <;> decide) (fun a => by fin_cases a <;> fin_cases t <;> decide) _
/-- Window 4's one block is its array. -/
theorem iblk4 (c : Dev nD) (t : Fin cfg0.N) : iblk m c 4 t = V m c main_v4 :=
  Memref.read_access_unit_zero (Elt F) main_v4 (funext fun a => by fin_cases a <;> fin_cases t <;> decide) (fun a => by fin_cases a <;> fin_cases t <;> decide) _

/-- The reference's `dgamma`. -/
theorem final5 (c : Dev nD) : (dats m 0 c).arrAt 5 cfg0.N = k0_pay9 (V m c main_v0) (V m c main_v1) (V m c main_v3) := by
  refine (dats m 0 c).arrAt_eq_of_after_last 5 ⟨0, by decide⟩ (by decide +kernel) _ (fun j => ?_)
  rw [after0_5]
  unfold_out out0_5
  rw [View.canon_unit_zero zero2]
  simp only [ld0, ld1, ld2, ld3, iblk0, iblk1, iblk2, iblk3, iblk4]
  rfl
/-- The reference's `codes`. -/
theorem final6 (c : Dev nD) : (dats m 0 c).arrAt 6 cfg0.N = k0_pay3 (k0_pay8 (V m c main_v0) (V m c main_v1) (V m c main_v2) (V m c main_v3)) (k0_pay10 (V m c main_v4)) k0_pay11 (k0_pay12 (F := F)) (k0_pay13 (V m c main_v4)) := by
  refine (dats m 0 c).arrAt_eq_of_after_last 6 ⟨0, by decide⟩ (by decide +kernel) _ (fun j => ?_)
  rw [after0_6]
  unfold_out out0_6
  rw [View.canon_unit_zero zero2]
  simp only [ld0, ld1, ld2, ld3, iblk0, iblk1, iblk2, iblk3, iblk4]
  rfl
/-- The reference's `scale`. -/
theorem final7 (c : Dev nD) : (dats m 0 c).arrAt 7 cfg0.N = k0_pay2 (k0_pay10 (V m c main_v4)) k0_pay11 (k0_pay12 (F := F)) (k0_pay13 (V m c main_v4)) := by
  refine (dats m 0 c).arrAt_eq_of_after_last 7 ⟨0, by decide⟩ (by decide +kernel) _ (fun j => ?_)
  rw [after0_7]
  unfold_out out0_7
  rw [View.canon_unit_zero zero2]
  simp only [ld0, ld1, ld2, ld3, iblk0, iblk1, iblk2, iblk3, iblk4]
  rfl
/-- The reference's `amax`. -/
theorem final8 (c : Dev nD) : (dats m 0 c).arrAt 8 cfg0.N = k0_pay4 (k0_pay8 (V m c main_v0) (V m c main_v1) (V m c main_v2) (V m c main_v3)) := by
  refine (dats m 0 c).arrAt_eq_of_after_last 8 ⟨0, by decide⟩ (by decide +kernel) _ (fun j => ?_)
  rw [after0_8]
  unfold_out out0_8
  rw [View.canon_unit_zero zero2]
  simp only [ld0, ld1, ld2, ld3, iblk0, iblk1, iblk2, iblk3, iblk4]
  rfl

/-- The run: the four results named, the arguments unchanged. -/
theorem run : θ_run defs (onTc (τ := τ) (main (F := F))) ⟨m, fun _ => 0, ρ⟩ fun r => ∀ c : Dev nD,
    (r.2.mem ((c : Thread nD τ).loc main_v5_0) = k0_pay9 (V m c main_v0) (V m c main_v1) (V m c main_v3)
      ∧ r.2.mem ((c : Thread nD τ).loc main_v5_1) = k0_pay3 (k0_pay8 (V m c main_v0) (V m c main_v1) (V m c main_v2) (V m c main_v3)) (k0_pay10 (V m c main_v4)) k0_pay11 (k0_pay12 (F := F)) (k0_pay13 (V m c main_v4))
      ∧ r.2.mem ((c : Thread nD τ).loc main_v5_2) = k0_pay2 (k0_pay10 (V m c main_v4)) k0_pay11 (k0_pay12 (F := F)) (k0_pay13 (V m c main_v4))
      ∧ r.2.mem ((c : Thread nD τ).loc main_v5_3) = k0_pay4 (k0_pay8 (V m c main_v0) (V m c main_v1) (V m c main_v2) (V m c main_v3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨⟨((h c).1 5).trans (final5 m c), ((h c).1 6).trans (final6 m c), ((h c).1 7).trans (final7 m c), ((h c).1 8).trans (final8 m c)⟩,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

end Cert.ReferenceIdeal.Run

end
-- ==== Proof.Sums.lean ====
/- The kernel's values over the extended reals, entry by entry: its blocked sums are the sums over all the rows, or all the lanes. -/
module

public import proofs.«01_k».proof.Proof.Vals
public import Idealize.ShloMosaic.Lib.Pointwise
public import Idealize.ShloMosaic.PureOps.Ideal.Laws

@[expose] public section

noncomputable section

namespace Rms

open Idealize.ShloMosaic Idealize.SL.Sem

/-- A sum in blocks of `m`. -/
theorem sum_block (f : ℕ → EReal) (n m : ℕ) : ∑ i ∈ Finset.range (n * m), f i = ∑ a ∈ Finset.range n, ∑ b ∈ Finset.range m, f (m * a + b) := by
  induction n with
  | zero => simp
  | succ n ih => rw [Nat.succ_mul, Finset.sum_range_add, ih, Finset.sum_range_succ, Nat.mul_comm m n]

namespace Args
variable (A : Args Ideal)

/-- The arguments at a row and a lane. -/
def x (i j : ℕ) : EReal := A.X (ix2 (Fin.ofNat 1920 i) (Fin.ofNat 5120 j))
def dy (i j : ℕ) : EReal := A.DY (ix2 (Fin.ofNat 1920 i) (Fin.ofNat 5120 j))
def ga (j : ℕ) : EReal := A.GA (ix2 0 (Fin.ofNat 5120 j))
def rr (i : ℕ) : EReal := A.RV (ix2 (Fin.ofNat 1920 i) 0)
/-- `dy·rstd·x` -/
def Q (i j : ℕ) : EReal := A.dy i j * A.rr i * A.x i j
/-- The row's sum of `dy·rstd·x·gamma`. -/
def S (i : ℕ) : EReal := ∑ j ∈ Finset.range 5120, A.Q i j * A.ga j
def inv : EReal := invV A.H (ix2 0 0)
/-- The row's coefficient. -/
def C (i : ℕ) : EReal := A.rr i * A.rr i * (A.S i * A.invd * A.inv)
/-- The scaled gradient. -/
def W (i j : ℕ) : EReal := A.dy i j * A.rr i * (A.ga j * A.inv) - A.x i j * A.C i

theorem r_eq (g : ℕ) (a : Fin 32) (b : Fin 128) : A.r g (ix2 a b) = A.rr (32 * g + a.val) := rfl
theorem q_eq (g t : ℕ) (a : Fin 32) (b : Fin 128) : A.q g t (ix2 a b) = A.Q (32 * g + a.val) (128 * t + b.val) := rfl
theorem ga_eq (t : ℕ) (b : Fin 128) : tileAt A.GA t (ix2 0 b) = A.ga (128 * t + b.val) := rfl

/-! ## dgamma -/

/-- A slab after `n` groups. -/
theorem DG_eq (n : ℕ) (s : Fin 8) (b : Fin 5120) : A.DG n (ix2 s b) = ∑ g ∈ Finset.range n, ∑ k ∈ Finset.range 4, A.Q (32 * g + (8 * k + s.val)) b.val := by
  induction n with
  | zero =>
    show Ideal.ofBits .f32 0x00000000#32 = _
    simp [Ideal.ofBits, Ideal.ieee]
  | succ n ih =>
    have hb := b.isLt
    rw [Finset.sum_range_succ, ← ih]
    have e1 : (Fin.ofNat 5120 (128 * (b.val / 128) + (Fin.ofNat 128 b.val).val) : Fin 5120) = b := Fin.ext (by
      show (128 * (b.val / 128) + b.val % 128) % 5120 = b.val
      omega)
    have e2 : 128 * (b.val / 128) + (Fin.ofNat 128 b.val : Fin 128).val = b.val := by
      show 128 * (b.val / 128) + b.val % 128 = b.val
      omega
    have h1 : A.DG (n + 1) (ix2 s b) = A.DG n (ix2 s (Fin.ofNat 5120 (128 * (b.val / 128) + (Fin.ofNat 128 b.val : Fin 128).val)))
        + partT (A.q n (b.val / 128)) (ix2 s (Fin.ofNat 128 b.val)) := rfl
    have h2 : partT (A.q n (b.val / 128)) (ix2 s (Fin.ofNat 128 b.val)) = A.Q (32 * n + s.val) b.val + A.Q (32 * n + (8 + s.val)) b.val
        + A.Q (32 * n + (16 + s.val)) b.val + A.Q (32 * n + (24 + s.val)) b.val := by
      pointwise [partT]
      simp only [q_eq, e2]
    rw [h1, e1, h2]
    simp only [Finset.sum_range_succ, Finset.sum_range_zero, zero_add, Nat.mul_zero, Nat.mul_one]

/-- `dgamma` is the sum over all rows. -/
theorem dgamma_eq (a : Fin 1) (b : Fin 5120) : A.dgamma (ix2 a b) = ∑ i ∈ Finset.range 1920, A.Q i b.val := by
  have h1 : A.dgamma (ix2 a b) = ∑ s : Fin 8, A.DG 60 (ix2 s b) := by
    show dgV (A.DG 60) (ix2 a b) = _
    pointwise [dgV]
  rw [h1, show 1920 = 60 * 32 from rfl, sum_block]
  simp only [DG_eq]
  rw [← Finset.sum_range fun s => ∑ g ∈ Finset.range 60, ∑ k ∈ Finset.range 4, A.Q (32 * g + (8 * k + s)) b.val, Finset.sum_comm]
  refine Finset.sum_congr rfl fun g _ => ?_
  rw [Finset.sum_comm, show 32 = 4 * 8 from rfl, sum_block (fun y => A.Q (4 * 8 * g + y) b.val)]

/-! ## The coefficient and the scaled gradient -/

theorem acc_eq (g n : ℕ) (a : Fin 32) (b : Fin 128) :
    A.acc g (n + 1) (ix2 a b) = ∑ t ∈ Finset.range (n + 1), A.Q (32 * g + a.val) (128 * t + b.val) * A.ga (128 * t + b.val) := by
  have hq : ∀ t, mulf (A.q g t) (broadcastTo S32x128 (tileAt A.GA t) (by decide)) (ix2 a b) = A.Q (32 * g + a.val) (128 * t + b.val) * A.ga (128 * t + b.val) := fun t => by
    pointwise []
    rw [q_eq, ga_eq]
  induction n with
  | zero =>
    rw [Finset.sum_range_one]
    exact hq 0
  | succ n ih =>
    rw [Finset.sum_range_succ, ← ih, ← hq (n + 1)]
    rfl

/-- The coefficient of a row. -/
theorem coef_eq (g : ℕ) (a : Fin 32) (b : Fin 128) : A.coef g (ix2 a b) = A.C (32 * g + a.val) := by
  have h1 : A.coef g (ix2 a b) = A.rr (32 * g + a.val) * A.rr (32 * g + a.val) * ((∑ l : Fin 128, A.acc g 40 (ix2 a l)) * A.invd * A.inv) := by
    show coefT A.invd (invV A.H) (A.r g) (A.acc g 40) (ix2 a b) = _
    pointwise [coefT]
    rw [r_eq]; rfl
  rw [h1]
  unfold C S
  simp only [acc_eq]
  rw [← Finset.sum_range fun l => ∑ t ∈ Finset.range (39 + 1), A.Q (32 * g + a.val) (128 * t + l) * A.ga (128 * t + l), Finset.sum_comm,
    show 5120 = 40 * 128 from rfl, sum_block]

theorem w_eq (g t : ℕ) (a : Fin 32) (b : Fin 128) : A.w g t (ix2 a b) = A.W (32 * g + a.val) (128 * t + b.val) := by
  have h1 : A.w g t (ix2 a b) = A.dy (32 * g + a.val) (128 * t + b.val) * A.rr (32 * g + a.val) * (A.ga (128 * t + b.val) * A.inv)
      - A.x (32 * g + a.val) (128 * t + b.val) * A.coef g (ix2 a b) := by
    have hg : tileAt A.GI t (ix2 0 b) = A.ga (128 * t + b.val) * A.inv := by
      show giV (invV A.H) A.GA (ix2 0 (Fin.ofNat 5120 (128 * t + b.val))) = _
      pointwise [giV]
      rfl
    rw [← hg]
    show wT (A.dys g t) (tileAt A.GI t) (A.x32 g t) (A.coef g) (ix2 a b) = _
    pointwise [wT]
    rfl
  rw [h1, coef_eq]
  rfl

/-- The codes. -/
theorem codes_eq (i : Fin 1920) (j : Fin 5120) :
    A.codes (ix2 i j) = min (Ideal.ofBits .f32 0x47600000#32) (max (Ideal.ofBits .f32 0xC7600000#32) (A.W i.val j.val)) := by
  have hi := i.isLt
  have hj := j.isLt
  have e1 : 32 * (i.val / 32) + (Fin.ofNat 32 i.val : Fin 32).val = i.val := by
    show 32 * (i.val / 32) + i.val % 32 = i.val
    omega
  have e2 : 128 * (j.val / 128) + (Fin.ofNat 128 j.val : Fin 128).val = j.val := by
    show 128 * (j.val / 128) + j.val % 128 = j.val
    omega
  have h := w_eq A (i.val / 32) (j.val / 128) (Fin.ofNat 32 i.val) (Fin.ofNat 128 j.val)
  rw [e1, e2] at h
  rw [← h]
  show codeT (A.w (i.val / 32) (j.val / 128)) (ix2 (Fin.ofNat 32 i.val) (Fin.ofNat 128 j.val)) = _
  pointwise [codeT]

end Args

end Rms

end
-- ==== Proof.Consts.lean ====
/- The constants of the programs over the extended reals. -/
module

public import Idealize.ShloMosaic.Lib.Pointwise
public import Idealize.ShloMosaic.PureOps.Ideal.Laws

@[expose] public section

noncomputable section

namespace Rms

open Idealize.ShloMosaic Idealize.SL.Sem

/-- The three fields of a pattern that is an exponent alone. -/
theorem shift_fields : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  decide +kernel

/-- A pattern that is a biased exponent `n` alone denotes `2^(n-127)`. -/
theorem ofBits_exp {n : ℕ} (h1 : 1 ≤ n) (h2 : n ≤ 254) : Ideal.ofBits .f32 (BitVec.ofNat 32 n <<< 23) = (((2 : ℝ) ^ ((n : ℤ) - 127) : ℝ) : EReal) := by
  obtain ⟨a, b, c⟩ := shift_fields ⟨n, by omega⟩
  have b' : ((BitVec.ofNat 32 n <<< 23).extractLsb' 23 8).toNat = n := b
  have c' : ((BitVec.ofNat 32 n <<< 23).extractLsb' 0 23).toNat = 0 := c
  have a' : ((BitVec.ofNat 32 n <<< 23).extractLsb' 31 1 == 1#1) = false := a
  generalize BitVec.ofNat 32 n <<< 23 = w at a' b' c'
  unfold Ideal.ofBits Ideal.ieee
  simp only [b', c', show 8 + 23 = 31 from rfl, a']
  rw [if_neg (by omega), if_neg (by omega)]
  refine congrArg _ ?_
  rw [show (((2 ^ 23 + 0 : ℕ)) : ℝ) = (2 : ℝ) ^ (23 : ℤ) by norm_num]
  rw [if_neg (by simp), one_mul, ← zpow_add₀ (by norm_num : (2 : ℝ) ≠ 0)]
  refine congrArg (fun z : ℤ => (2 : ℝ) ^ z) ?_
  norm_num
/-- The largest exponent alone denotes `+∞`. -/
theorem ofBits_top : Ideal.ofBits .f32 (BitVec.ofNat 32 255 <<< 23) = ⊤ := by
  simp [Ideal.ofBits, Ideal.ieee]
theorem ofBits_min : Ideal.ofBits .f32 0x00800000#32 = (((2 : ℝ) ^ (-126 : ℤ) : ℝ) : EReal) := by
  rw [show (0x00800000#32 : BitVec 32) = BitVec.ofNat 32 1 <<< 23 by decide, ofBits_exp (by norm_num) (by norm_num)]
  norm_num
theorem ofBits_bot : Ideal.ofBits .f32 0xFF800000#32 = ⊥ := by simp [Ideal.ofBits, Ideal.ieee]
theorem ofBits_c : Ideal.ofBits .f32 0x37924925#32 = ((9586981 * (2 : ℝ) ^ (-39 : ℤ) : ℝ) : EReal) := by
  simp [Ideal.ofBits, Ideal.ieee, -EReal.coe_mul]
theorem ofBits_max : Ideal.ofBits .f32 0x7F7FFFFF#32 = ((16777215 * (2 : ℝ) ^ (104 : ℤ) : ℝ) : EReal) := by
  simp [Ideal.ofBits, Ideal.ieee, -EReal.coe_mul]
theorem ofBits_d : Ideal.ofBits .f32 0x45A00000#32 = ((5120 : ℝ) : EReal) := by
  simp [Ideal.ofBits, Ideal.ieee, -EReal.coe_mul]; norm_num

end Rms

end
-- ==== Proof.Maxima.lean ====
/- The kernel's running maxima over the extended reals: below a bound exactly when every scaled gradient is, and zero. -/
module

public import proofs.«01_k».proof.Proof.Sums
public import proofs.«01_k».proof.Proof.Consts

@[expose] public section

noncomputable section

namespace Rms

open Idealize.ShloMosaic Idealize.SL.Sem

/-- The absolute value at the instance. -/
abbrev ab (x : EReal) : EReal := FloatOps.absf (F := Ideal) (φ := .f32) x

/-- All four running maxima are at most `B`. -/
def Le4 (m : M4 Ideal) (B : EReal) : Prop :=
  ∀ (a : Fin 8) (b : Fin 128), m.1 (ix2 a b) ≤ B ∧ m.2.1 (ix2 a b) ≤ B ∧ m.2.2.1 (ix2 a b) ≤ B ∧ m.2.2.2 (ix2 a b) ≤ B

theorem le4_maxT (w : FVec Ideal S32x128 .f32) (m : M4 Ideal) (B : EReal) :
    Le4 (maxT w m) B ↔ Le4 m B ∧ ∀ (a : Fin 32) (b : Fin 128), ab (w (ix2 a b)) ≤ B := by
  have h0 : ∀ (a : Fin 8) (b : Fin 128), (maxT w m).1 (ix2 a b) = max (m.1 (ix2 a b)) (ab (w (ix2 ⟨a.val, by omega⟩ b))) := fun a b => by pointwise [maxT]
  have h1 : ∀ (a : Fin 8) (b : Fin 128), (maxT w m).2.1 (ix2 a b) = max (m.2.1 (ix2 a b)) (ab (w (ix2 ⟨8 + a.val, by omega⟩ b))) := fun a b => by pointwise [maxT]
  have h2 : ∀ (a : Fin 8) (b : Fin 128), (maxT w m).2.2.1 (ix2 a b) = max (m.2.2.1 (ix2 a b)) (ab (w (ix2 ⟨16 + a.val, by omega⟩ b))) := fun a b => by pointwise [maxT]
  have h3 : ∀ (a : Fin 8) (b : Fin 128), (maxT w m).2.2.2 (ix2 a b) = max (m.2.2.2 (ix2 a b)) (ab (w (ix2 ⟨24 + a.val, by omega⟩ b))) := fun a b => by pointwise [maxT]
  unfold Le4
  simp only [h0, h1, h2, h3, max_le_iff]
  constructor
  · refine fun h => ⟨fun a b => ⟨(h a b).1.1, (h a b).2.1.1, (h a b).2.2.1.1, (h a b).2.2.2.1⟩, fun a b => ?_⟩
    have ha := a.isLt
    rcases (by omega : a.val < 8 ∨ (8 ≤ a.val ∧ a.val < 16) ∨ (16 ≤ a.val ∧ a.val < 24) ∨ 24 ≤ a.val) with h' | h' | h' | h'
    · exact (h ⟨a.val, h'⟩ b).1.2
    · have := (h ⟨a.val - 8, by omega⟩ b).2.1.2
      rwa [show (⟨8 + (a.val - 8), by omega⟩ : Fin 32) = a from Fin.ext (by show 8 + (a.val - 8) = a.val; omega)] at this
    · have := (h ⟨a.val - 16, by omega⟩ b).2.2.1.2
      rwa [show (⟨16 + (a.val - 16), by omega⟩ : Fin 32) = a from Fin.ext (by show 16 + (a.val - 16) = a.val; omega)] at this
    · have := (h ⟨a.val - 24, by omega⟩ b).2.2.2.2
      rwa [show (⟨24 + (a.val - 24), by omega⟩ : Fin 32) = a from Fin.ext (by show 24 + (a.val - 24) = a.val; omega)] at this
  · exact fun h a b => ⟨⟨(h.1 a b).1, h.2 _ b⟩, ⟨(h.1 a b).2.1, h.2 _ b⟩, ⟨(h.1 a b).2.2.1, h.2 _ b⟩, ⟨(h.1 a b).2.2.2, h.2 _ b⟩⟩

namespace Args
variable (A : Args Ideal)

theorem le4_mt (g n : ℕ) (m : M4 Ideal) (B : EReal) :
    Le4 (A.mt g m n) B ↔ Le4 m B ∧ ∀ t < n, ∀ (a : Fin 32) (b : Fin 128), ab (A.w g t (ix2 a b)) ≤ B := by
  induction n with
  | zero => exact ⟨fun h => ⟨h, fun t ht => absurd ht (Nat.not_lt_zero t)⟩, fun h => h.1⟩
  | succ n ih =>
    show Le4 (maxT (A.w g n) (A.mt g m n)) B ↔ _
    rw [le4_maxT, ih, Nat.forall_lt_succ_right, and_assoc]

theorem le4_mg (n : ℕ) (B : EReal) :
    Le4 (A.mg n) B ↔ 0 ≤ B ∧ ∀ g < n, ∀ t < 40, ∀ (a : Fin 32) (b : Fin 128), ab (A.w g t (ix2 a b)) ≤ B := by
  induction n with
  | zero =>
    have hz : Ideal.ofBits .f32 0x00000000#32 = 0 := by simp [Ideal.ofBits, Ideal.ieee]
    have h : ∀ (a : Fin 8) (b : Fin 128), (broadcast S8x128 (Scalar.ofBits (F := Ideal) .f32 0x00000000#32)) (ix2 a b) = (0 : EReal) := fun _ _ => hz
    show Le4 max0 B ↔ _
    unfold Le4 max0
    simp only [h]
    exact ⟨fun h => ⟨(h 0 0).1, fun g hg => absurd hg (Nat.not_lt_zero g)⟩, fun h _ _ => ⟨h.1, h.1, h.1, h.1⟩⟩
  | succ n ih =>
    show Le4 (A.mt n (A.mg n) 40) B ↔ _
    rw [le4_mt, ih, and_assoc]
    exact and_congr_right fun _ => (Nat.forall_lt_succ_right (p := fun g => ∀ t < 40, ∀ (a : Fin 32) (b : Fin 128), ab (A.w g t (ix2 a b)) ≤ B)).symm

/-- The largest scaled gradient, as the kernel finds it. -/
def M : EReal := (Finset.univ : Finset (Fin 128)).fold max (Ideal.ofBits .f32 0xFF800000#32) fun l => (Finset.univ : Finset (Fin 8)).fold max (Ideal.ofBits .f32 0xFF800000#32) fun s =>
  max (max (max ((A.mg 60).1 (ix2 s l)) ((A.mg 60).2.1 (ix2 s l))) ((A.mg 60).2.2.1 (ix2 s l))) ((A.mg 60).2.2.2 (ix2 s l))

theorem amax_eq (a b : Fin 1) : A.amax (ix2 a b) = A.M * A.scale (ix2 a b) := by
  show amaxV A.scale (A.mg 60) (ix2 a b) = _
  pointwise [amaxV]
  rfl

/-- It is at most `B` exactly when every `|w|` is, and zero. -/
theorem M_le (B : EReal) : A.M ≤ B ↔ 0 ≤ B ∧ ∀ (i : Fin 1920) (j : Fin 5120), ab (A.W i.val j.val) ≤ B := by
  have h1 : A.M ≤ B ↔ Le4 (A.mg 60) B := by
    unfold M Le4
    rw [ofBits_bot]
    simp only [Finset.fold_max_le, bot_le, true_and, Finset.mem_univ, forall_const, max_le_iff]
    exact ⟨fun h a b => ⟨(h b a).1.1.1, (h b a).1.1.2, (h b a).1.2, (h b a).2⟩, fun h b a => ⟨⟨⟨(h a b).1, (h a b).2.1⟩, (h a b).2.2.1⟩, (h a b).2.2.2⟩⟩
  rw [h1, le4_mg]
  refine and_congr_right fun _ => ⟨fun h i j => ?_, fun h g hg t ht a b => ?_⟩
  · have hi := i.isLt
    have hj := j.isLt
    have := h (i.val / 32) (by omega) (j.val / 128) (by omega) ⟨i.val % 32, by omega⟩ ⟨j.val % 128, by omega⟩
    rwa [w_eq, show 32 * (i.val / 32) + i.val % 32 = i.val by omega, show 128 * (j.val / 128) + j.val % 128 = j.val by omega] at this
  · rw [w_eq]
    exact h ⟨32 * g + a.val, by omega⟩ ⟨128 * t + b.val, by omega⟩

end Args

end Rms

end
-- ==== Proof.Folds.lean ====
/- The two searches for an exponent, over 32-bit words. -/
module

public import Idealize.ShloMosaic.Lib.Pointwise
public import Idealize.ShloMosaic.PureOps.Ideal.Laws

@[expose] public section

noncomputable section

namespace Rms

open Idealize.ShloMosaic Idealize.SL.Sem

/-- The kernel's search: of the counts up to `N`, the largest. -/
theorem fold_kernel : ∀ N : Fin 255, (Finset.univ : Finset (Fin 255)).fold IntOp.maxsi (2147483648#32)
    (fun x => if x.val + 1 ≤ N.val then IntOp.addi (BitVec.ofNat 32 x.val) 1#32 else 0#32) = BitVec.ofNat 32 N.val := by decide +kernel
/-- The reference's: of the exponents from `n - 125`, the least. -/
theorem fold_ref : ∀ n : Fin 254, (Finset.univ : Finset (Fin 254)).fold IntOp.minsi (2147483647#32)
    (fun x => if n.val ≤ x.val then IntOp.subi (BitVec.ofNat 32 x.val) 125#32 else 128#32) = IntOp.subi (BitVec.ofNat 32 n.val) 125#32 := by decide +kernel

end Rms

end
-- ==== Proof.Scale.lean ====
/- The quantiser's scale: the kernel's exponent, counted as the largest `k` with `2^(k-127) ≤ t`, against the reference's,
   the least `k` with `t < 2^k`; both scales are then the same power of two. Over the extended reals. -/
module

public import proofs.«01_k».proof.Proof.Vals
public import proofs.«01_k».proof.Proof.RefRun
public import proofs.«01_k».proof.Proof.Consts
public import proofs.«01_k».proof.Proof.Folds
public import Idealize.ShloMosaic.Lib.Pointwise
public import Idealize.ShloMosaic.PureOps.Ideal.Laws

@[expose] public section

noncomputable section

namespace Rms

open Idealize.ShloMosaic Idealize.SL.Sem

/-- The kernel's search at a value `T`. -/
def kernelB (T : EReal) : BitVec 32 := (Finset.univ : Finset (Fin 255)).fold IntOp.maxsi (2147483648#32)
  (fun x => if Ideal.ofBits .f32 (IntOp.shli .vector (IntOp.addi (BitVec.ofNat 32 x.val) 1#32) 23#32) ≤ T then IntOp.addi (BitVec.ofNat 32 x.val) 1#32 else 0#32)
/-- The reference's. -/
def refE (T : EReal) : BitVec 32 :=
  if T < Ideal.ofBits .f32 0x00800000#32 then 0#32 else (Finset.univ : Finset (Fin 254)).fold IntOp.minsi (2147483647#32)
    (fun x => if T < FloatOps.exp2 (F := Ideal) (FloatOps.sitofp .f32 (IntOp.subi (BitVec.ofNat 32 x.val) 125#32)) then IntOp.subi (BitVec.ofNat 32 x.val) 125#32 else 128#32)

theorem sub125 : ∀ x : Fin 254, (IntOp.subi (BitVec.ofNat 32 x.val) 125#32).toInt = (x.val : ℤ) - 125 := by decide +kernel
theorem add1 : ∀ x : Fin 255, IntOp.shli .vector (IntOp.addi (BitVec.ofNat 32 x.val) 1#32) 23#32 = BitVec.ofNat 32 (x.val + 1) <<< 23 := by decide +kernel

/-- `2^e` of an integer word. -/
theorem exp2_word (b : BitVec 32) : FloatOps.exp2 (F := Ideal) (φ := .f32) (FloatOps.sitofp .f32 b) = (((2 : ℝ) ^ b.toInt : ℝ) : EReal) := by
  show (((2 : ℝ) ^ ((b.toInt : ℝ)) : ℝ) : EReal) = _
  rw [Real.rpow_intCast]

theorem pow_lt_iff {n k : ℤ} {t : ℝ} (h1 : (2 : ℝ) ^ n ≤ t) (h2 : t < (2 : ℝ) ^ (n + 1)) : t < (2 : ℝ) ^ k ↔ n + 1 ≤ k := by
  constructor
  · intro h
    have := (zpow_lt_zpow_iff_right₀ (by norm_num : (1 : ℝ) < 2)).1 (h1.trans_lt h)
    omega
  · intro h
    exact h2.trans_le ((zpow_le_zpow_iff_right₀ (by norm_num : (1 : ℝ) < 2)).2 h)

/-- THE EXPONENTS AGREE: the kernel's count less 126 (or zero, at count zero) is the reference's exponent, between −125 and 113. -/
theorem search {t : ℝ} (h0 : 0 ≤ t) (ht : t < (2 : ℝ) ^ (113 : ℤ)) : ∃ N : Fin 240, 1 ≤ N.val ∧ refE (t : EReal) = IntOp.subi (BitVec.ofNat 32 N.val) 126#32
    ∧ ((kernelB (t : EReal) = 0#32 ∧ N.val = 126) ∨ kernelB (t : EReal) = BitVec.ofNat 32 N.val) := by
  have hk : ∀ x : Fin 255, Ideal.ofBits .f32 (IntOp.shli .vector (IntOp.addi (BitVec.ofNat 32 x.val) 1#32) 23#32) ≤ (t : EReal) ↔ (2 : ℝ) ^ ((x.val : ℤ) - 126) ≤ t := by
    intro x
    rw [add1]
    rcases Nat.lt_or_ge x.val 254 with hx | hx
    · rw [ofBits_exp (by omega) (by omega), EReal.coe_le_coe_iff]
      rw [show ((x.val + 1 : ℕ) : ℤ) - 127 = (x.val : ℤ) - 126 by push_cast; ring]
    · have hx' : x.val = 254 := by omega
      rw [hx', ofBits_top]
      refine ⟨fun h => absurd h (by simp), fun h => absurd (h.trans_lt ht) (not_lt.2 ?_)⟩
      exact (zpow_le_zpow_iff_right₀ (by norm_num : (1 : ℝ) < 2)).2 (by norm_num)
  have hr : ∀ x : Fin 254, (t : EReal) < FloatOps.exp2 (F := Ideal) (φ := .f32) (FloatOps.sitofp .f32 (IntOp.subi (BitVec.ofNat 32 x.val) 125#32)) ↔ t < (2 : ℝ) ^ ((x.val : ℤ) - 125) := by
    intro x
    rw [exp2_word, sub125, EReal.coe_lt_coe_iff]
  unfold refE kernelB
  simp only [ofBits_min, EReal.coe_lt_coe_iff, hk, hr]
  rcases lt_or_ge t ((2 : ℝ) ^ (-126 : ℤ)) with hs | hs
  · refine ⟨⟨126, by norm_num⟩, by norm_num, ?_, .inl ⟨?_, rfl⟩⟩
    · rw [if_pos hs]; decide
    · refine Eq.trans ?_ (fold_kernel ⟨0, by norm_num⟩)
      refine Finset.fold_congr fun x _ => ?_
      rw [if_neg, if_neg (by simp)]
      exact not_le.2 (hs.trans_le ((zpow_le_zpow_iff_right₀ (by norm_num : (1 : ℝ) < 2)).2 (by omega)))
  · obtain ⟨n, hn1, hn2⟩ := exists_mem_Ico_zpow (lt_of_lt_of_le (by positivity) hs : 0 < t) (by norm_num : (1 : ℝ) < 2)
    have hlo : -126 ≤ n := by
      have := (zpow_lt_zpow_iff_right₀ (by norm_num : (1 : ℝ) < 2)).1 (hs.trans_lt hn2)
      omega
    have hhi : n < 113 := (zpow_lt_zpow_iff_right₀ (by norm_num : (1 : ℝ) < 2)).1 (hn1.trans_lt ht)
    obtain ⟨N, rfl⟩ : ∃ N : ℕ, n = (N : ℤ) - 127 := ⟨(n + 127).toNat, by omega⟩
    refine ⟨⟨N, by omega⟩, by show 1 ≤ N; omega, ?_, .inr ?_⟩
    · rw [if_neg (not_lt.2 hs)]
      refine Eq.trans (Eq.trans ?_ (fold_ref ⟨N - 1, by omega⟩)) ?_
      · refine Finset.fold_congr fun x _ => ?_
        have : (t < (2 : ℝ) ^ ((x.val : ℤ) - 125)) ↔ N - 1 ≤ x.val := by rw [pow_lt_iff hn1 hn2]; omega
        exact if_congr this rfl rfl
      · have : ∀ N : Fin 240, 1 ≤ N.val → IntOp.subi (BitVec.ofNat 32 (N.val - 1)) 125#32 = IntOp.subi (BitVec.ofNat 32 N.val) 126#32 := by decide +kernel
        exact this ⟨N, by omega⟩ (by show 1 ≤ N; omega)
    · refine Eq.trans ?_ (fold_kernel ⟨N, by omega⟩)
      refine Finset.fold_congr fun x _ => ?_
      have : (2 : ℝ) ^ ((x.val : ℤ) - 126) ≤ t ↔ x.val + 1 ≤ N := by
        rw [← not_lt, pow_lt_iff hn1 hn2]; omega
      exact if_congr this rfl rfl

end Rms

end
-- ==== Proof.Powers.lean ====
/- The scale and its inverse, of the kernel and of the reference, as one power of two and its inverse: for a history within the range of float32. -/
module

public import proofs.«01_k».proof.Proof.Scale

@[expose] public section

noncomputable section

namespace Rms

open Idealize.ShloMosaic Idealize.SL.Sem
open Cert.ReferenceIdeal.Gen (k0_pay1 k0_pay2 k0_pay10 k0_pay11 k0_pay12 k0_pay13)

/-- The history's largest entry over 57344, as both programs compute it, in absolute value. -/
def tV (h : FVec Ideal S1x16 .f32) : EReal :=
  FloatOps.absf (F := Ideal) (φ := .f32) ((Finset.univ : Finset (Fin 16)).fold max (Ideal.ofBits .f32 0xFF800000#32) (fun x => h (ix2 0 x)) * Ideal.ofBits .f32 0x37924925#32)

theorem biasedV_eq (h : FVec Ideal S1x16 .f32) (a b : Fin 1) : biasedV h (ix2 a b) = kernelB (tV h) := by
  obtain rfl : a = 0 := Subsingleton.elim _ _
  pointwise [biasedV, kV]
  rfl

/-- The exponent word the kernel takes of its count. -/
def expW (b : BitVec 32) : BitVec 32 :=
  Scalar.select (IntOp.ori (IntOp.cmpi .eq b 0#32) (IntOp.cmpi .eq b 255#32)) 0#32 (IntOp.subi b 126#32)

theorem scaleV_eq (h : FVec Ideal S1x16 .f32) (a b : Fin 1) :
    scaleV h (ix2 a b) = Ideal.ofBits .f32 (IntOp.shli .vector (IntOp.addi 127#32 (expW (kernelB (tV h)))) 23#32) := by
  rw [← biasedV_eq h a b]
  pointwise [scaleV, expV]
  rfl
theorem invV_eq (h : FVec Ideal S1x16 .f32) (a b : Fin 1) :
    invV h (ix2 a b) = Ideal.ofBits .f32 (IntOp.shli .vector (IntOp.subi 127#32 (expW (kernelB (tV h)))) 23#32) := by
  rw [← biasedV_eq h a b]
  pointwise [invV, expV]
  rfl
theorem pay1_eq (h : FVec Ideal S1x16 .f32) (a b : Fin 1) :
    k0_pay1 (k0_pay10 h) k0_pay11 (k0_pay12 (F := Ideal)) (k0_pay13 h) (ix2 a b) = refE (tV h) := by
  obtain rfl : a = 0 := Subsingleton.elim _ _
  pointwise [k0_pay1, k0_pay10, k0_pay11, k0_pay12, k0_pay13]
  rfl
theorem pay2_eq (h : FVec Ideal S1x16 .f32) (a b : Fin 1) :
    k0_pay2 (k0_pay10 h) k0_pay11 (k0_pay12 (F := Ideal)) (k0_pay13 h) (ix2 a b) = FloatOps.exp2 (F := Ideal) (φ := .f32) (FloatOps.sitofp .f32 (refE (tV h))) := by
  rw [← pay1_eq h a b]
  pointwise [k0_pay2]

/-- The words of the exponents that occur. -/
theorem words : ∀ N : Fin 240, 1 ≤ N.val → (IntOp.subi (BitVec.ofNat 32 N.val) 126#32).toInt = (N.val : ℤ) - 126
    ∧ (IntOp.subi 0#32 (IntOp.subi (BitVec.ofNat 32 N.val) 126#32)).toInt = 126 - (N.val : ℤ)
    ∧ expW (BitVec.ofNat 32 N.val) = IntOp.subi (BitVec.ofNat 32 N.val) 126#32
    ∧ IntOp.shli .vector (IntOp.addi 127#32 (IntOp.subi (BitVec.ofNat 32 N.val) 126#32)) 23#32 = BitVec.ofNat 32 (N.val + 1) <<< 23
    ∧ IntOp.shli .vector (IntOp.subi 127#32 (IntOp.subi (BitVec.ofNat 32 N.val) 126#32)) 23#32 = BitVec.ofNat 32 (253 - N.val) <<< 23 := by decide +kernel

/-- A history within the range of float32: `tV` is a real number below `2^113`. -/
theorem tV_real (h : FVec Ideal S1x16 .f32) (hh : ∀ k : Fin 16, FloatOps.absf (F := Ideal) (φ := .f32) (h (ix2 0 k)) ≤ Ideal.ofBits .f32 0x7F7FFFFF#32) :
    ∃ t : ℝ, tV h = (t : EReal) ∧ 0 ≤ t ∧ t < (2 : ℝ) ^ (113 : ℤ) := by
  have habs : ∀ x : EReal, FloatOps.absf (F := Ideal) (φ := .f32) x = max x (-x) := fun _ => rfl
  simp only [habs, ofBits_max] at hh
  unfold tV
  rw [habs, ofBits_bot, ofBits_c]
  have hu : (Finset.univ : Finset (Fin 16)).fold max (⊥ : EReal) (fun x => h (ix2 0 x)) ≤ ((16777215 * (2 : ℝ) ^ (104 : ℤ) : ℝ) : EReal) :=
    Finset.fold_max_le _ |>.2 ⟨bot_le, fun k _ => (le_max_left _ _).trans (hh k)⟩
  have hl : ((-(16777215 * (2 : ℝ) ^ (104 : ℤ)) : ℝ) : EReal) ≤ (Finset.univ : Finset (Fin 16)).fold max (⊥ : EReal) (fun x => h (ix2 0 x)) := by
    refine Finset.le_fold_max _ |>.2 (.inr ⟨0, Finset.mem_univ _, ?_⟩)
    rw [EReal.coe_neg]
    exact EReal.neg_le_of_neg_le ((le_max_right _ _).trans (hh 0))
  obtain ⟨a, ha⟩ : ∃ a : ℝ, (Finset.univ : Finset (Fin 16)).fold max (⊥ : EReal) (fun x => h (ix2 0 x)) = (a : EReal) :=
    ⟨_, (EReal.coe_toReal (ne_of_lt (hu.trans_lt (EReal.coe_lt_top _))) (ne_of_gt ((EReal.bot_lt_coe _).trans_le hl))).symm⟩
  rw [ha] at hu hl ⊢
  rw [EReal.coe_le_coe_iff] at hu hl
  refine ⟨|a * (9586981 * (2 : ℝ) ^ (-39 : ℤ))|, ?_, abs_nonneg _, ?_⟩
  · rw [← EReal.coe_mul, ← EReal.coe_neg]
    exact (EReal.coe_strictMono.monotone.map_max).symm
  · have h1 : |a| ≤ 16777215 * (2 : ℝ) ^ (104 : ℤ) := abs_le.2 ⟨hl, hu⟩
    rw [abs_mul, abs_of_pos (by positivity : (0 : ℝ) < 9586981 * (2 : ℝ) ^ (-39 : ℤ))]
    refine (mul_le_mul_of_nonneg_right h1 (by positivity)).trans_lt ?_
    norm_num

/-- THE SCALES: one power of two, and its inverse. -/
theorem scales (h : FVec Ideal S1x16 .f32) (hh : ∀ k : Fin 16, FloatOps.absf (F := Ideal) (φ := .f32) (h (ix2 0 k)) ≤ Ideal.ofBits .f32 0x7F7FFFFF#32) :
    ∃ s : ℝ, 0 < s ∧ (∀ a b : Fin 1, scaleV h (ix2 a b) = (s : EReal)) ∧ (∀ a b : Fin 1, invV h (ix2 a b) = ((s⁻¹ : ℝ) : EReal))
      ∧ FloatOps.exp2 (F := Ideal) (φ := .f32) (FloatOps.sitofp .f32 (refE (tV h))) = (s : EReal)
      ∧ FloatOps.exp2 (F := Ideal) (φ := .f32) (FloatOps.sitofp .f32 (IntOp.subi 0#32 (refE (tV h)))) = ((s⁻¹ : ℝ) : EReal) := by
  obtain ⟨t, ht, h0, h1⟩ := tV_real h hh
  obtain ⟨N, hN, hr, hk⟩ := search h0 h1
  obtain ⟨w1, w2, w3, w4, w5⟩ := words N hN
  have hN' := N.isLt
  have he : expW (kernelB (t : EReal)) = IntOp.subi (BitVec.ofNat 32 N.val) 126#32 := by
    rcases hk with ⟨hk, h126⟩ | hk
    · rw [hk, h126]; decide
    · rw [hk, w3]
  refine ⟨(2 : ℝ) ^ ((N.val : ℤ) - 126), by positivity, fun a b => ?_, fun a b => ?_, ?_, ?_⟩
  · rw [scaleV_eq, ht, he, w4, ofBits_exp (by omega) (by omega)]
    refine congrArg (fun z : ℤ => (((2 : ℝ) ^ z : ℝ) : EReal)) (by push_cast; ring)
  · rw [invV_eq, ht, he, w5, ofBits_exp (by omega) (by omega), ← zpow_neg]
    refine congrArg (fun z : ℤ => (((2 : ℝ) ^ z : ℝ) : EReal)) (by omega)
  · rw [exp2_word, ht, hr, w1]
  · rw [exp2_word, ht, hr, w2, ← zpow_neg]
    refine congrArg (fun z : ℤ => (((2 : ℝ) ^ z : ℝ) : EReal)) (by omega)

end Rms

end
-- ==== Proof.RefVals.lean ====
/- The reference's values over the extended reals, entry by entry. -/
module

public import proofs.«01_k».proof.Proof.Powers

@[expose] public section

noncomputable section

namespace Rms

open Idealize.ShloMosaic Idealize.SL.Sem
open Cert.ReferenceIdeal.Gen (k0_pay1 k0_pay2 k0_pay3 k0_pay4 k0_pay5 k0_pay6 k0_pay7 k0_pay8 k0_pay9 k0_pay10 k0_pay11 k0_pay12 k0_pay13)

variable (x dy : FVec Ideal S1920x5120 .bf16) (ga : FVec Ideal S1x5120 .f32) (r : FVec Ideal Cert.ReferenceIdeal.S1920x1 .f32)

/-- `dgamma`: the sum over the rows of `dy·x̂`. -/
theorem pay9_eq (a : Fin 1) (b : Fin 5120) : k0_pay9 (F := Ideal) x dy r (ix2 a b) = ∑ i : Fin 1920, (dy (ix2 i b) : EReal) * ((x (ix2 i b) : EReal) * (r (ix2 i 0) : EReal)) := by
  pointwise [k0_pay9, k0_pay5, k0_pay6, k0_pay7]

/-- `dx`. -/
theorem pay8_eq (a : Fin 1920) (b : Fin 5120) : k0_pay8 (F := Ideal) x dy ga r (ix2 a b) = (r (ix2 a 0) : EReal) * ((dy (ix2 a b) : EReal) * (ga (ix2 0 b) : EReal)
    - (x (ix2 a b) : EReal) * (r (ix2 a 0) : EReal) * Ideal.div (∑ j : Fin 5120, (dy (ix2 a j) : EReal) * (ga (ix2 0 j) : EReal) * ((x (ix2 a j) : EReal) * (r (ix2 a 0) : EReal))) (Ideal.ofBits .f32 0x45A00000#32)) := by
  pointwise [k0_pay8, k0_pay5, k0_pay6, k0_pay7]

/-- The codes. -/
theorem pay3_eq (v : FVec Ideal S1920x5120 .f32) (h : FVec Ideal S1x16 .f32) (a : Fin 1920) (b : Fin 5120) :
    k0_pay3 v (k0_pay10 h) k0_pay11 (k0_pay12 (F := Ideal)) (k0_pay13 h) (ix2 a b)
      = min (Ideal.ofBits .f32 0x47600000#32) (max (Ideal.ofBits .f32 0xC7600000#32) (v (ix2 a b) * FloatOps.exp2 (F := Ideal) (φ := .f32) (FloatOps.sitofp .f32 (IntOp.subi 0#32 (refE (tV h)))))) := by
  rw [← pay1_eq h 0 0]
  pointwise [k0_pay3]

/-- The largest `|dx|`, by its upper bounds. -/
theorem pay4_eq (v : FVec Ideal S1920x5120 .f32) (a b : Fin 1) (B : EReal) :
    k0_pay4 v (ix2 a b) ≤ B ↔ ∀ (i : Fin 1920) (j : Fin 5120), FloatOps.absf (F := Ideal) (φ := .f32) (v (ix2 i j)) ≤ B := by
  pointwise [k0_pay4]
  rw [ofBits_bot]
  simp only [Finset.fold_max_le, bot_le, true_and, Finset.mem_univ, forall_const]

end Rms

end
-- ==== Proof.Equal.lean ====
/- The equation: over the extended reals, on finite inputs, the kernel's four results are the reference's. -/
module

public import proofs.«01_k».proof.Proof.Maxima
public import proofs.«01_k».proof.Proof.RefVals

@[expose] public section

noncomputable section

namespace Rms

open Idealize.ShloMosaic Idealize.SL.Sem
open Cert.ReferenceIdeal.Gen (k0_pay1 k0_pay2 k0_pay3 k0_pay4 k0_pay5 k0_pay6 k0_pay7 k0_pay8 k0_pay9 k0_pay10 k0_pay11 k0_pay12 k0_pay13)

/-- A real number among the extended reals. -/
def Fin' (x : EReal) : Prop := ∃ a : ℝ, x = (a : EReal)

theorem fin_sum {ι : Type} (s : Finset ι) (f : ι → EReal) (h : ∀ i ∈ s, Fin' (f i)) : Fin' (∑ i ∈ s, f i) :=
  Finset.sum_induction f Fin' (fun _ _ ⟨a, ha⟩ ⟨b, hb⟩ => ⟨a + b, by rw [ha, hb, EReal.coe_add]⟩) ⟨0, rfl⟩ h
theorem fin_mul {x y : EReal} : Fin' x → Fin' y → Fin' (x * y) := fun ⟨a, ha⟩ ⟨b, hb⟩ => ⟨a * b, by rw [ha, hb, EReal.coe_mul]⟩

/-- `|x|` of a real number. -/
theorem ab_coe (x : ℝ) : ab (x : EReal) = ((|x| : ℝ) : EReal) := by
  show max (x : EReal) (-(x : EReal)) = _
  rw [← EReal.coe_neg]
  exact (EReal.coe_strictMono.monotone.map_max).symm

section
variable (A : Args Ideal) (r : FVec Ideal Cert.ReferenceIdeal.S1920x1 .f32) (hr : ∀ i : Fin 1920, r (ix2 i 0) = A.rr i.val)

theorem x_ix (i : Fin 1920) (j : Fin 5120) : A.X (ix2 i j) = A.x i.val j.val :=
  congrArg A.X (congrArg₂ ix2 (Fin.ext (Nat.mod_eq_of_lt i.isLt).symm) (Fin.ext (Nat.mod_eq_of_lt j.isLt).symm))
theorem dy_ix (i : Fin 1920) (j : Fin 5120) : A.DY (ix2 i j) = A.dy i.val j.val :=
  congrArg A.DY (congrArg₂ ix2 (Fin.ext (Nat.mod_eq_of_lt i.isLt).symm) (Fin.ext (Nat.mod_eq_of_lt j.isLt).symm))
theorem ga_ix (j : Fin 5120) : A.GA (ix2 0 j) = A.ga j.val :=
  congrArg A.GA (congrArg (ix2 0) (Fin.ext (Nat.mod_eq_of_lt j.isLt).symm))

include hr

/-- RESULT 1, dgamma: no input need be finite. -/
theorem dgamma_ref : A.dgamma = k0_pay9 (F := Ideal) A.X A.DY r := by
  refine funext fun i => ?_
  obtain ⟨a, b, rfl⟩ : ∃ (a : Fin 1) (b : Fin 5120), i = ix2 a b := ⟨i 0, i 1, by funext k; fin_cases k <;> rfl⟩
  rw [A.dgamma_eq, pay9_eq, Finset.sum_range]
  refine Finset.sum_congr rfl fun i _ => ?_
  rw [x_ix, dy_ix, hr]
  show A.dy i.val b.val * A.rr i.val * A.x i.val b.val = _
  rw [mul_assoc, mul_comm (A.rr i.val)]

/-- The reference's `dx`. -/
theorem dx_eq (i : Fin 1920) (j : Fin 5120) : k0_pay8 (F := Ideal) A.X A.DY A.GA r (ix2 i j)
    = A.rr i.val * (A.dy i.val j.val * A.ga j.val - A.x i.val j.val * A.rr i.val * (A.S i.val * ((1 / 5120 : ℝ) : EReal))) := by
  rw [pay8_eq, ofBits_d, Ideal.div_coe (by norm_num)]
  simp only [x_ix, dy_ix, ga_ix, hr]
  have hs : ∑ l : Fin 5120, A.dy i.val l.val * A.ga l.val * (A.x i.val l.val * A.rr i.val) = A.S i.val := by
    unfold Args.S
    rw [Finset.sum_range]
    refine Finset.sum_congr rfl fun l _ => ?_
    show _ = A.dy i.val l.val * A.rr i.val * A.x i.val l.val * A.ga l.val
    rw [mul_assoc, mul_assoc, mul_assoc]
    refine congrArg _ ?_
    rw [mul_comm (A.ga l.val), mul_comm (A.x i.val l.val) (A.rr i.val), mul_assoc]
  rw [hs]

variable (hx : ∀ i j, Fin' (A.x i j)) (hdy : ∀ i j, Fin' (A.dy i j)) (hga : ∀ j, Fin' (A.ga j)) (hrr : ∀ i, Fin' (A.rr i))
  (hinv : A.invd = ((1 / 5120 : ℝ) : EReal))
include hx hdy hga hrr hinv

/-- On finite inputs `dx` is finite, and the kernel's scaled gradient is `dx` over the scale. -/
theorem W_dx {s : ℝ} (hs : A.inv = ((s⁻¹ : ℝ) : EReal)) (i : Fin 1920) (j : Fin 5120) :
    ∃ d : ℝ, k0_pay8 (F := Ideal) A.X A.DY A.GA r (ix2 i j) = (d : EReal) ∧ A.W i.val j.val = ((d * s⁻¹ : ℝ) : EReal) := by
  obtain ⟨S, hS⟩ : Fin' (A.S i.val) := fin_sum _ _ fun l _ => fin_mul (fin_mul (fin_mul (hdy _ _) (hrr _)) (hx _ _)) (hga _)
  obtain ⟨x, hx⟩ := hx i.val j.val
  obtain ⟨dy, hdy⟩ := hdy i.val j.val
  obtain ⟨ga, hga⟩ := hga j.val
  obtain ⟨rr, hrr⟩ := hrr i.val
  refine ⟨rr * (dy * ga - x * rr * (S * (1 / 5120))), ?_, ?_⟩
  · rw [dx_eq A r hr, hx, hdy, hga, hrr, hS]
    simp only [← EReal.coe_mul, ← EReal.coe_sub]
  · unfold Args.W Args.C
    rw [hx, hdy, hga, hrr, hS, hinv, hs]
    simp only [← EReal.coe_mul, ← EReal.coe_sub]
    refine congrArg _ ?_
    ring

variable (hh : ∀ k : Fin 16, FloatOps.absf (F := Ideal) (φ := .f32) (A.H (ix2 0 k)) ≤ Ideal.ofBits .f32 0x7F7FFFFF#32)
include hh

/-- RESULT 2, the codes. -/
theorem codes_ref : A.codes = k0_pay3 (k0_pay8 (F := Ideal) A.X A.DY A.GA r) (k0_pay10 A.H) k0_pay11 (k0_pay12 (F := Ideal)) (k0_pay13 A.H) := by
  obtain ⟨s, s0, h1, h2, h3, h4⟩ := scales A.H hh
  refine funext fun i => ?_
  obtain ⟨a, b, rfl⟩ : ∃ (a : Fin 1920) (b : Fin 5120), i = ix2 a b := ⟨i 0, i 1, by funext k; fin_cases k <;> rfl⟩
  obtain ⟨d, hd, hw⟩ := W_dx A r hr hx hdy hga hrr hinv (s := s) (h2 0 0) a b
  rw [A.codes_eq, pay3_eq, h4, hd, hw, EReal.coe_mul]

/-- RESULT 3, the scale. -/
theorem scale_ref : A.scale = k0_pay2 (k0_pay10 A.H) k0_pay11 (k0_pay12 (F := Ideal)) (k0_pay13 A.H) := by
  obtain ⟨s, s0, h1, h2, h3, h4⟩ := scales A.H hh
  refine funext fun i => ?_
  obtain ⟨a, b, rfl⟩ : ∃ (a : Fin 1) (b : Fin 1), i = ix2 a b := ⟨i 0, i 1, by funext k; fin_cases k <;> rfl⟩
  rw [pay2_eq, h3]
  exact h1 a b

/-- RESULT 4, the new amax: the largest scaled gradient times the scale is the largest `|dx|`. -/
theorem amax_ref : A.amax = k0_pay4 (k0_pay8 (F := Ideal) A.X A.DY A.GA r) := by
  obtain ⟨s, s0, h1, h2, h3, h4⟩ := scales A.H hh
  have hW := W_dx A r hr hx hdy hga hrr hinv (s := s) (h2 0 0)
  refine funext fun i => ?_
  obtain ⟨a, b, rfl⟩ : ∃ (a : Fin 1) (b : Fin 1), i = ix2 a b := ⟨i 0, i 1, by funext k; fin_cases k <;> rfl⟩
  rw [A.amax_eq, show A.scale (ix2 a b) = (s : EReal) from h1 a b]
  have s0' : (0 : EReal) < (s : EReal) := EReal.coe_pos.2 s0
  have hab : ∀ (i : Fin 1920) (j : Fin 5120), ab (A.W i.val j.val) * (s : EReal) = ab (k0_pay8 (F := Ideal) A.X A.DY A.GA r (ix2 i j)) := by
    intro i j
    obtain ⟨d, hd, hw⟩ := hW i j
    rw [hd, hw, ab_coe, ab_coe, ← EReal.coe_mul, abs_mul, abs_of_pos (inv_pos.2 s0), mul_assoc, inv_mul_cancel₀ s0.ne', mul_one]
  have hR := (pay4_eq (k0_pay8 (F := Ideal) A.X A.DY A.GA r) a b _).1 le_rfl
  refine le_antisymm ?_ ((pay4_eq _ a b _).2 fun i j => ?_)
  · refine (EReal.le_div_iff_mul_le s0' (EReal.coe_ne_top s)).1 ((A.M_le _).2 ⟨?_, fun i j => ?_⟩)
    · refine (EReal.le_div_iff_mul_le s0' (EReal.coe_ne_top s)).2 ?_
      rw [zero_mul]
      refine le_trans ?_ (hR 0 0)
      obtain ⟨d, hd, hw⟩ := hW 0 0
      rw [hd]
      exact (EReal.coe_nonneg.2 (abs_nonneg d)).trans_eq (ab_coe d).symm
    · exact (EReal.le_div_iff_mul_le s0' (EReal.coe_ne_top s)).2 ((hab i j).trans_le (hR i j))
  · exact (hab i j).symm.trans_le (mul_le_mul_of_nonneg_right (((A.M_le _).1 le_rfl).2 i j) s0'.le)

end

end Rms

end
-- ==== Proof.Agree.lean ====
/- The two programs on one set of arguments: what their launches stage, and the precondition read as finiteness. -/
module

public import proofs.«01_k».proof.Defs
public import proofs.«01_k».proof.Proof.KernelIdealLaunch
public import proofs.«01_k».proof.Proof.RefRun
public import proofs.«01_k».proof.Proof.Equal
public import proofs.«01_k».proof.Proof.Gen.Pre_finite_inputs
public import Idealize.ShloMosaic.Lib.Claim

@[expose] public section

noncomputable section

namespace Cert.Agree

open Idealize.ShloMosaic Idealize.ShloMosaic.TcCoe Idealize.SL.Sem

/-! ## The precondition -/

theorem ofBits_inf16 : Ideal.ofBits .bf16 0x7F80#16 = ⊤ := by simp [Ideal.ofBits, Ideal.ieee]
theorem ofBits_inf32 : Ideal.ofBits .f32 0x7F800000#32 = ⊤ := by simp [Ideal.ofBits, Ideal.ieee]

theorem ofBool_one {p : Bool} (h : BitVec.ofBool p = 1#1) : p = true := by revert h; cases p <;> decide

/-- `|x|` below `+∞`: a real number. -/
theorem fin_of_lt {x : EReal} (h : max x (-x) < ⊤) : Rms.Fin' x := by
  refine ⟨x.toReal, (EReal.coe_toReal (ne_of_lt ((le_max_left _ _).trans_lt h)) fun hb => ?_).symm⟩
  rw [hb] at h
  simp at h

theorem fin_of_cmp {x y : EReal} (hy : y = ⊤) (h : BitVec.ofBool (decide (max x (-x) < y)) = 1#1) : Rms.Fin' x :=
  fin_of_lt (hy ▸ of_decide_eq_true (ofBool_one h))

section
variable (m : (ℓ : Loc Cert.KernelIdeal.nD Cert.KernelIdeal.τ Cert.KernelIdeal.sig) → Buf (Elt Ideal) ℓ)
  (h : Cert.Pre_KernelIdeal_finite_inputs m) (c : Dev Cert.KernelIdeal.nD)
include h

theorem pre0 (k) : Rms.Fin' (m ((c.tc : Thread Cert.KernelIdeal.nD Cert.KernelIdeal.τ).loc Cert.KernelIdeal.main_arg0) k) :=
  fin_of_cmp ofBits_inf16 (congrFun (h c).1 k)
theorem pre1 (k) : Rms.Fin' (m ((c.tc : Thread Cert.KernelIdeal.nD Cert.KernelIdeal.τ).loc Cert.KernelIdeal.main_arg1) k) :=
  fin_of_cmp ofBits_inf16 (congrFun (h c).2.1 k)
theorem pre2 (k) : Rms.Fin' (m ((c.tc : Thread Cert.KernelIdeal.nD Cert.KernelIdeal.τ).loc Cert.KernelIdeal.main_arg2) k) :=
  fin_of_cmp ofBits_inf32 (congrFun (h c).2.2.1 k)
theorem pre3 (k) : Rms.Fin' (m ((c.tc : Thread Cert.KernelIdeal.nD Cert.KernelIdeal.τ).loc Cert.KernelIdeal.main_arg3) k) :=
  fin_of_cmp ofBits_inf32 (congrFun (h c).2.2.2.1 k)
/-- The history is within the range of float32. -/
theorem pre4 (k) : Rms.ab (m ((c.tc : Thread Cert.KernelIdeal.nD Cert.KernelIdeal.τ).loc Cert.KernelIdeal.main_arg4) k) ≤ Ideal.ofBits .f32 0x7F7FFFFF#32 :=
  of_decide_eq_true (ofBool_one (congrFun (h c).2.2.2.2 k))
end

/-! ## The staged arrays -/

/-- Every entry of a reshaped array is an entry of the array. -/
theorem cast_all {α : Type} {s t : Shape} {x : s.Idx → α} (hst : s.ShapeCasts t) {P : α → Prop} (hx : ∀ k, P (x k)) (j : t.Idx) : P (shapeCast t x hst j) := hx _

/-- `rstd` as a column, read at a row. -/
theorem cast_rstd (x : Cert.ReferenceIdeal.S3x640.Idx → EReal) (h : Cert.ReferenceIdeal.S3x640.ShapeCasts Cert.ReferenceIdeal.S1920x1) (i : Fin 1920) :
    shapeCast Cert.ReferenceIdeal.S1920x1 x h (ix2 i 0) = x (ix2 (Fin.ofNat 3 (i.val / 640)) (Fin.ofNat 640 i.val)) := by
  have hi := i.isLt
  pointwise []
  refine congrArg x (congrArg₂ ix2 (Fin.ext ?_) (Fin.ext ?_))
  · show i.val / 640 = i.val / 640 % 3
    omega
  · rfl

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The kernel's arguments at its ideal instance. -/
def A : Rms.Args Ideal := Cert.KernelIdeal.Run.args m ((1 / 5120 : ℝ) : EReal) c

theorem kX : (A m c).X = shapeCast Cert.KernelIdeal.S1920x5120 (m ((c.tc : Thread Cert.KernelIdeal.nD Cert.KernelIdeal.τ).loc Cert.KernelIdeal.main_arg0)) Cert.KernelIdeal.Gen.shapeCasts_S3x640x5120_S1920x5120 := by
  show Cert.KernelIdeal.Gen.V m c Cert.KernelIdeal.main_v0 = _
  entry_read; rfl
theorem kDY : (A m c).DY = shapeCast Cert.KernelIdeal.S1920x5120 (m ((c.tc : Thread Cert.KernelIdeal.nD Cert.KernelIdeal.τ).loc Cert.KernelIdeal.main_arg1)) Cert.KernelIdeal.Gen.shapeCasts_S3x640x5120_S1920x5120 := by
  show Cert.KernelIdeal.Gen.V m c Cert.KernelIdeal.main_v1 = _
  entry_read; rfl
theorem kGA : (A m c).GA = shapeCast Cert.KernelIdeal.S1x5120 (m ((c.tc : Thread Cert.KernelIdeal.nD Cert.KernelIdeal.τ).loc Cert.KernelIdeal.main_arg2)) Cert.KernelIdeal.Gen.shapeCasts_S5120_S1x5120 := by
  show Cert.KernelIdeal.Gen.V m c Cert.KernelIdeal.main_v2 = _
  entry_read; rfl
theorem kRS : (A m c).RS = m ((c.tc : Thread Cert.KernelIdeal.nD Cert.KernelIdeal.τ).loc Cert.KernelIdeal.main_arg3) := by
  show Cert.KernelIdeal.Gen.V m c Cert.KernelIdeal.main_arg3 = _
  entry_read; rfl
theorem kH : (A m c).H = shapeCast Cert.KernelIdeal.S1x16 (m ((c.tc : Thread Cert.KernelIdeal.nD Cert.KernelIdeal.τ).loc Cert.KernelIdeal.main_arg4)) Cert.KernelIdeal.Gen.shapeCasts_S16_S1x16 := by
  show Cert.KernelIdeal.Gen.V m c Cert.KernelIdeal.main_v3 = _
  entry_read; rfl

variable (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
include hag

theorem rX : (Cert.ReferenceIdeal.Gen.V m' c Cert.ReferenceIdeal.main_v0 : FVec Ideal Rms.S1920x5120 .bf16) = (A m c).X := by
  rw [kX, ← hag.1]
  entry_read; rfl
theorem rDY : (Cert.ReferenceIdeal.Gen.V m' c Cert.ReferenceIdeal.main_v1 : FVec Ideal Rms.S1920x5120 .bf16) = (A m c).DY := by
  rw [kDY, ← hag.2.1]
  entry_read; rfl
theorem rGA : (Cert.ReferenceIdeal.Gen.V m' c Cert.ReferenceIdeal.main_v2 : FVec Ideal Rms.S1x5120 .f32) = (A m c).GA := by
  rw [kGA, ← hag.2.2.1]
  entry_read; rfl
theorem rH : (Cert.ReferenceIdeal.Gen.V m' c Cert.ReferenceIdeal.main_v4 : FVec Ideal Rms.S1x16 .f32) = (A m c).H := by
  rw [kH, ← hag.2.2.2.2]
  entry_read; rfl
/-- The reference's column of `rstd`. -/
def R : FVec Ideal Cert.ReferenceIdeal.S1920x1 .f32 := Cert.ReferenceIdeal.Gen.V m' c Cert.ReferenceIdeal.main_v3
theorem rR (i : Fin 1920) : R m' c (ix2 i 0) = (A m c).rr i.val := by
  have h1 : R m' c = shapeCast Cert.ReferenceIdeal.S1920x1 (m' ((c.tc : Thread Cert.ReferenceIdeal.nD Cert.ReferenceIdeal.τ).loc Cert.ReferenceIdeal.main_arg3)) Cert.ReferenceIdeal.Gen.shapeCasts_S3x640_S1920x1 := by
    show Cert.ReferenceIdeal.Gen.V m' c Cert.ReferenceIdeal.main_v3 = _
    entry_read; rfl
  have hm : (Fin.ofNat 1920 i.val : Fin 1920).val = i.val := Nat.mod_eq_of_lt i.isLt
  rw [h1, hag.2.2.2.1, ← kRS m c]
  refine (cast_rstd _ _ i).trans ?_
  show _ = (A m c).RS (ix2 (Fin.ofNat 3 ((Fin.ofNat 1920 i.val : Fin 1920).val / 640)) (Fin.ofNat 640 (Fin.ofNat 1920 i.val : Fin 1920).val))
  rw [hm]

end

end Cert.Agree

end
-- ==== Proof.lean ====
/- The certificate: the printed kernel, its idealization and the reference end without fault and leave their
   arguments; the idealization names one constant; and over the extended reals, on finite inputs, the idealized kernel
   computes the reference's four results. -/
module

public import proofs.«01_k».proof.Defs
public import proofs.«01_k».proof.Proof.KernelLaunch
public import proofs.«01_k».proof.Proof.KernelIdealLaunch
public import proofs.«01_k».proof.Proof.Agree
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite_inputs
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Proof

open Idealize.ShloMosaic Idealize.ShloMosaic.TcCoe Idealize.SL.Sem Cert.Agree

/-- The two programs compute the same four arrays: the kernel's, by its run; the reference's, by its run and the equation. -/
theorem algebraic : Cert.algebraic_KernelIdeal_ReferenceIdeal_pre_finite_inputs := by
  intro m g m' g' hpre hag
  have hx : ∀ c i j, Rms.Fin' ((A m c).x i j) := fun c i j => by
    show Rms.Fin' ((A m c).X _)
    rw [kX]; exact cast_all _ (pre0 m hpre c) _
  have hdy : ∀ c i j, Rms.Fin' ((A m c).dy i j) := fun c i j => by
    show Rms.Fin' ((A m c).DY _)
    rw [kDY]; exact cast_all _ (pre1 m hpre c) _
  have hga : ∀ c j, Rms.Fin' ((A m c).ga j) := fun c j => by
    show Rms.Fin' ((A m c).GA _)
    rw [kGA]; exact cast_all _ (pre2 m hpre c) _
  have hrr : ∀ c i, Rms.Fin' ((A m c).rr i) := fun c i => by
    show Rms.Fin' ((A m c).RS _)
    rw [kRS]; exact pre3 m hpre c _
  have hh : ∀ c (k : Fin 16), Rms.ab ((A m c).H (ix2 0 k)) ≤ Ideal.ofBits .f32 0x7F7FFFFF#32 := fun c k => by
    rw [kH]; exact cast_all (P := fun z => Rms.ab z ≤ Ideal.ofBits .f32 0x7F7FFFFF#32) _ (pre4 m hpre c) _
  have hr : ∀ c i, R m' c (ix2 i 0) = (A m c).rr i.val := fun c i => rR m m' c (hag c) i
  refine ⟨fun c => (A m c).dgamma, fun c => (A m c).codes, fun c => (A m c).scale, fun c => (A m c).amax, ?_, ?_⟩
  · refine (θ_run Cert.KernelIdeal.defs _ _).mono (fun r h c => ?_)
      (Cert.KernelIdeal.Run.run_main m g ((1 / 5120 : ℝ) : EReal) (IdealRules.named_const.ideal_named_scalar _ _ _ _ rfl).symm)
    obtain ⟨⟨a0, a1, a2, a3, a4⟩, v0, v1, v2, v3⟩ := h.1 c
    exact ⟨v0, v1, v2, v3, a0.trans (Cert.KernelIdeal.Gen.V_main_arg0 m c), a1.trans (Cert.KernelIdeal.Gen.V_main_arg1 m c),
      a2.trans (Cert.KernelIdeal.Gen.V_main_arg2 m c), a3.trans (Cert.KernelIdeal.Gen.V_main_arg3 m c), a4.trans (Cert.KernelIdeal.Gen.V_main_arg4 m c)⟩
  · refine (θ_run Cert.ReferenceIdeal.defs _ _).mono (fun r h c => ?_) (Cert.ReferenceIdeal.Run.run m' g')
    obtain ⟨⟨v0, v1, v2, v3⟩, args⟩ := h c
    have e0 := rX m m' c (hag c)
    have e1 := rDY m m' c (hag c)
    have e2 := rGA m m' c (hag c)
    have e4 := rH m m' c (hag c)
    refine ⟨v0.trans ?_, v1.trans ?_, v2.trans ?_, v3.trans ?_, args⟩
    · refine Eq.trans ?_ (Rms.dgamma_ref (A m c) (R m' c) (hr c)).symm
      rw [← e0, ← e1]; rfl
    · refine Eq.trans ?_ (Rms.codes_ref (A m c) (R m' c) (hr c) (hx c) (hdy c) (hga c) (hrr c) rfl (hh c)).symm
      rw [← e0, ← e1, ← e2, ← e4]; rfl
    · refine Eq.trans ?_ (Rms.scale_ref (A m c) (R m' c) (hr c) (hx c) (hdy c) (hga c) (hrr c) rfl (hh c)).symm
      rw [← e4]
    · refine Eq.trans ?_ (Rms.amax_ref (A m c) (R m' c) (hr c) (hx c) (hdy c) (hga c) (hrr c) rfl (hh c)).symm
      rw [← e0, ← e1, ← e2]; rfl

/-- All the claims: the three frames (the ideal programs' also under the precondition), the idealization, the equation. -/
theorem claim : Cert.Claim :=
  ⟨Cert.Kernel.Gen.facts, Cert.KernelIdeal.Gen.facts, Cert.ReferenceIdeal.Gen.facts, Cert.Pre_finite_inputs.Gen.facts,
    fun m ρ _ => Cert.Kernel.Run.frame m ρ,
    fun m ρ _ => Cert.KernelIdeal.Run.frame m ρ,
    fun m ρ _ => Cert.KernelIdeal.Run.frame m ρ,
    fun m ρ _ => Cert.ReferenceIdeal.Gen.frame m ρ,
    fun m ρ _ => Cert.ReferenceIdeal.Gen.frame m ρ,
    IdealRules.named_const.statement Cert.KernelIdeal.κ "inv_d" .f32 0x394CCCCD#32 ((1 / 5120 : ℝ) : EReal) rfl,
    algebraic⟩

end Cert.Proof

end
